-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S16384x1024 : Shape := ⟨2, ![16384, 1024]⟩
abbrev S16384x512 : Shape := ⟨2, ![16384, 512]⟩
abbrev S1024x1024 : Shape := ⟨2, ![1024, 1024]⟩
abbrev S8 : Shape := ⟨1, ![8]⟩
abbrev S7 : Shape := ⟨1, ![7]⟩
abbrev S_ : Shape := ⟨0, ![]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S16384x1024, .bf16⟩
  | .local _ .vmem, ⟨0, _⟩ => ⟨S1024x512, .bf16⟩
  | .local _ .vmem, ⟨1, _⟩ => ⟨S512x1024, .bf16⟩
  | .local _ .vmem, ⟨2, _⟩ => ⟨S16384x512, .bf16⟩
  | .local _ .vmem, ⟨3, _⟩ => ⟨S1024x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c1_i32_49 : BitVec 32 := 1#32
  let c14_i32_46 : BitVec 32 := 14#32
  let v62 : BitVec 1 := Scalar.cmpi .eq v35 c14_i32_46
  let c5_i32_47 : BitVec 32 := 5#32
  let c13_i32_44 : BitVec 32 := 13#32
  let v60 : BitVec 1 := Scalar.cmpi .eq v35 c13_i32_44
  let c9_i32_45 : BitVec 32 := 9#32
  let c12_i32_42 : BitVec 32 := 12#32
  let v58 : BitVec 1 := Scalar.cmpi .eq v35 c12_i32_42
  let c13_i32_43 : BitVec 32 := 13#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c3_i32_33 : BitVec 32 := 3#32
  let c6_i32_30 : BitVec 32 := 6#32
  let v46 : BitVec 1 := Scalar.cmpi .eq v35 c6_i32_30
  let c7_i32_31 : BitVec 32 := 7#32
  let c5_i32_28 : BitVec 32 := 5#32
  let v44 : BitVec 1 := Scalar.cmpi .eq v35 c5_i32_28
  let c11_i32_29 : BitVec 32 := 11#32
  let c4_i32_26 : BitVec 32 := 4#32
  let v42 : BitVec 1 := Scalar.cmpi .eq v35 c4_i32_26
  let c15_i32_27 : BitVec 32 := 15#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c15_i32_27 v41
  let v45 : BitVec 32 := Scalar.select v44 c11_i32_29 v43
  let v47 : BitVec 32 := Scalar.select v46 c7_i32_31 v45
  let v49 : BitVec 32 := Scalar.select v48 c3_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c13_i32_43 v57
  let v61 : BitVec 32 := Scalar.select v60 c9_i32_45 v59
  let v63 : BitVec 32 := Scalar.select v62 c5_i32_47 v61
  let v65 : BitVec 32 := Scalar.select v64 c1_i32_49 v63
  let c1_i32_84 : BitVec 32 := 1#32
  let v99 : BitVec 32 := Scalar.muli v65 c1_i32_84
  let v100 : BitVec 32 := Scalar.addi c0_i32_85 v99
  v100.toNat
def k0_dev2 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_87 : BitVec 32 := 1#32
  let v101 : BitVec 32 := Scalar.muli v97 c1_i32_87
  let v102 : BitVec 32 := Scalar.addi c0_i32_88 v101
  v102.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32 : BitVec 32 := 1024#32
  let v105 : BitVec 32 := Scalar.muli v2 c1024_i32
  let v106 : Index := Scalar.indexCast v105
  let c0_91 : Index := 0#32
  ![v106.toNat, 0]
def k0_off2 (d0 : Dev nD) (c0_i32_93 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_92 : BitVec 32 := 16#32
  let v110 : BitVec 32 := Scalar.addi v32 c16_i32_92
  let v111 : BitVec 32 := Scalar.subi v110 c0_i32_93
  let c16_i32_94 : BitVec 32 := 16#32
  let v112 : BitVec 32 := Scalar.remsi v111 c16_i32_94
  let c15_i32_124 : BitVec 32 := 15#32
  let v141 : BitVec 1 := Scalar.cmpi .eq v112 c15_i32_124
  let c1_i32_125 : BitVec 32 := 1#32
  let c14_i32_122 : BitVec 32 := 14#32
  let v139 : BitVec 1 := Scalar.cmpi .eq v112 c14_i32_122
  let c5_i32_123 : BitVec 32 := 5#32
  let c13_i32_120 : BitVec 32 := 13#32
  let v137 : BitVec 1 := Scalar.cmpi .eq v112 c13_i32_120
  let c9_i32_121 : BitVec 32 := 9#32
  let c12_i32_118 : BitVec 32 := 12#32
  let v135 : BitVec 1 := Scalar.cmpi .eq v112 c12_i32_118
  let c13_i32_119 : BitVec 32 := 13#32
  let c11_i32_116 : BitVec 32 := 11#32
  let v133 : BitVec 1 := Scalar.cmpi .eq v112 c11_i32_116
  let c14_i32_117 : BitVec 32 := 14#32
  let c10_i32_114 : BitVec 32 := 10#32
  let v131 : BitVec 1 := Scalar.cmpi .eq v112 c10_i32_114
  let c10_i32_115 : BitVec 32 := 10#32
  let c9_i32_112 : BitVec 32 := 9#32
  let v129 : BitVec 1 := Scalar.cmpi .eq v112 c9_i32_112
  let c6_i32_113 : BitVec 32 := 6#32
  let c8_i32_110 : BitVec 32 := 8#32
  let v127 : BitVec 1 := Scalar.cmpi .eq v112 c8_i32_110
  let c2_i32_111 : BitVec 32 := 2#32
  let c7_i32_108 : BitVec 32 := 7#32
  let v125 : BitVec 1 := Scalar.cmpi .eq v112 c7_i32_108
  let c3_i32_109 : BitVec 32 := 3#32
  let c6_i32_106 : BitVec 32 := 6#32
  let v123 : BitVec 1 := Scalar.cmpi .eq v112 c6_i32_106
  let c7_i32_107 : BitVec 32 := 7#32
  let c5_i32_104 : BitVec 32 := 5#32
  let v121 : BitVec 1 := Scalar.cmpi .eq v112 c5_i32_104
  let c11_i32_105 : BitVec 32 := 11#32
  let c4_i32_102 : BitVec 32 := 4#32
  let v119 : BitVec 1 := Scalar.cmpi .eq v112 c4_i32_102
  let c15_i32_103 : BitVec 32 := 15#32
  let c3_i32_100 : BitVec 32 := 3#32
  let v117 : BitVec 1 := Scalar.cmpi .eq v112 c3_i32_100
  let c12_i32_101 : BitVec 32 := 12#32
  let c2_i32_98 : BitVec 32 := 2#32
  let v115 : BitVec 1 := Scalar.cmpi .eq v112 c2_i32_98
  let c8_i32_99 : BitVec 32 := 8#32
  let c1_i32_95 : BitVec 32 := 1#32
  let v113 : BitVec 1 := Scalar.cmpi .eq v112 c1_i32_95
  let c4_i32_96 : BitVec 32 := 4#32
  let c0_i32_97 : BitVec 32 := 0#32
  let v114 : BitVec 32 := Scalar.select v113 c4_i32_96 c0_i32_97
  let v116 : BitVec 32 := Scalar.select v115 c8_i32_99 v114
  let v118 : BitVec 32 := Scalar.select v117 c12_i32_101 v116
  let v120 : BitVec 32 := Scalar.select v119 c15_i32_103 v118
  let v122 : BitVec 32 := Scalar.select v121 c11_i32_105 v120
  let v124 : BitVec 32 := Scalar.select v123 c7_i32_107 v122
  let v126 : BitVec 32 := Scalar.select v125 c3_i32_109 v124
  let v128 : BitVec 32 := Scalar.select v127 c2_i32_111 v126
  let v130 : BitVec 32 := Scalar.select v129 c6_i32_113 v128
  let v132 : BitVec 32 := Scalar.select v131 c10_i32_115 v130
  let v134 : BitVec 32 := Scalar.select v133 c14_i32_117 v132
  let v136 : BitVec 32 := Scalar.select v135 c13_i32_119 v134
  let v138 : BitVec 32 := Scalar.select v137 c9_i32_121 v136
  let v140 : BitVec 32 := Scalar.select v139 c5_i32_123 v138
  let v142 : BitVec 32 := Scalar.select v141 c1_i32_125 v140
  let c1024_i32_161 : BitVec 32 := 1024#32
  let v178 : BitVec 32 := Scalar.muli v142 c1024_i32_161
  let c0_i32_166 : BitVec 32 := 0#32
  ![v178.toNat, 0]
def k0_dev3 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_164 : BitVec 32 := 1#32
  let v179 : BitVec 32 := Scalar.muli v97 c1_i32_164
  let v180 : BitVec 32 := Scalar.addi c0_i32_165 v179
  v180.toNat
def k0_off3 (d0 : Dev nD) (c0_i32_168 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let v187 : BitVec 32 := Scalar.addi v32 c0_i32_168
  let c16_i32_169 : BitVec 32 := 16#32
  let v188 : BitVec 32 := Scalar.remsi v187 c16_i32_169
  let c15_i32_199 : BitVec 32 := 15#32
  let v217 : BitVec 1 := Scalar.cmpi .eq v188 c15_i32_199
  let c1_i32_200 : BitVec 32 := 1#32
  let c14_i32_197 : BitVec 32 := 14#32
  let v215 : BitVec 1 := Scalar.cmpi .eq v188 c14_i32_197
  let c5_i32_198 : BitVec 32 := 5#32
  let c13_i32_195 : BitVec 32 := 13#32
  let v213 : BitVec 1 := Scalar.cmpi .eq v188 c13_i32_195
  let c9_i32_196 : BitVec 32 := 9#32
  let c12_i32_193 : BitVec 32 := 12#32
  let v211 : BitVec 1 := Scalar.cmpi .eq v188 c12_i32_193
  let c13_i32_194 : BitVec 32 := 13#32
  let c11_i32_191 : BitVec 32 := 11#32
  let v209 : BitVec 1 := Scalar.cmpi .eq v188 c11_i32_191
  let c14_i32_192 : BitVec 32 := 14#32
  let c10_i32_189 : BitVec 32 := 10#32
  let v207 : BitVec 1 := Scalar.cmpi .eq v188 c10_i32_189
  let c10_i32_190 : BitVec 32 := 10#32
  let c9_i32_187 : BitVec 32 := 9#32
  let v205 : BitVec 1 := Scalar.cmpi .eq v188 c9_i32_187
  let c6_i32_188 : BitVec 32 := 6#32
  let c8_i32_185 : BitVec 32 := 8#32
  let v203 : BitVec 1 := Scalar.cmpi .eq v188 c8_i32_185
  let c2_i32_186 : BitVec 32 := 2#32
  let c7_i32_183 : BitVec 32 := 7#32
  let v201 : BitVec 1 := Scalar.cmpi .eq v188 c7_i32_183
  let c3_i32_184 : BitVec 32 := 3#32
  let c6_i32_181 : BitVec 32 := 6#32
  let v199 : BitVec 1 := Scalar.cmpi .eq v188 c6_i32_181
  let c7_i32_182 : BitVec 32 := 7#32
  let c5_i32_179 : BitVec 32 := 5#32
  let v197 : BitVec 1 := Scalar.cmpi .eq v188 c5_i32_179
  let c11_i32_180 : BitVec 32 := 11#32
  let c4_i32_177 : BitVec 32 := 4#32
  let v195 : BitVec 1 := Scalar.cmpi .eq v188 c4_i32_177
  let c15_i32_178 : BitVec 32 := 15#32
  let c3_i32_175 : BitVec 32 := 3#32
  let v193 : BitVec 1 := Scalar.cmpi .eq v188 c3_i32_175
  let c12_i32_176 : BitVec 32 := 12#32
  let c2_i32_173 : BitVec 32 := 2#32
  let v191 : BitVec 1 := Scalar.cmpi .eq v188 c2_i32_173
  let c8_i32_174 : BitVec 32 := 8#32
  let c1_i32_170 : BitVec 32 := 1#32
  let v189 : BitVec 1 := Scalar.cmpi .eq v188 c1_i32_170
  let c4_i32_171 : BitVec 32 := 4#32
  let c0_i32_172 : BitVec 32 := 0#32
  let v190 : BitVec 32 := Scalar.select v189 c4_i32_171 c0_i32_172
  let v192 : BitVec 32 := Scalar.select v191 c8_i32_174 v190
  let v194 : BitVec 32 := Scalar.select v193 c12_i32_176 v192
  let v196 : BitVec 32 := Scalar.select v195 c15_i32_178 v194
  let v198 : BitVec 32 := Scalar.select v197 c11_i32_180 v196
  let v200 : BitVec 32 := Scalar.select v199 c7_i32_182 v198
  let v202 : BitVec 32 := Scalar.select v201 c3_i32_184 v200
  let v204 : BitVec 32 := Scalar.select v203 c2_i32_186 v202
  let v206 : BitVec 32 := Scalar.select v205 c6_i32_188 v204
  let v208 : BitVec 32 := Scalar.select v207 c10_i32_190 v206
  let v210 : BitVec 32 := Scalar.select v209 c14_i32_192 v208
  let v212 : BitVec 32 := Scalar.select v211 c13_i32_194 v210
  let v214 : BitVec 32 := Scalar.select v213 c9_i32_196 v212
  let v216 : BitVec 32 := Scalar.select v215 c5_i32_198 v214
  let v218 : BitVec 32 := Scalar.select v217 c1_i32_200 v216
  let c1024_i32_236 : BitVec 32 := 1024#32
  let v253 : BitVec 32 := Scalar.muli v218 c1024_i32_236
  let c0_i32_241 : BitVec 32 := 0#32
  ![v253.toNat, 0]
def k0_dev4 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c1_i32_49 : BitVec 32 := 1#32
  let c14_i32_46 : BitVec 32 := 14#32
  let v62 : BitVec 1 := Scalar.cmpi .eq v35 c14_i32_46
  let c5_i32_47 : BitVec 32 := 5#32
  let c13_i32_44 : BitVec 32 := 13#32
  let v60 : BitVec 1 := Scalar.cmpi .eq v35 c13_i32_44
  let c9_i32_45 : BitVec 32 := 9#32
  let c12_i32_42 : BitVec 32 := 12#32
  let v58 : BitVec 1 := Scalar.cmpi .eq v35 c12_i32_42
  let c13_i32_43 : BitVec 32 := 13#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c3_i32_33 : BitVec 32 := 3#32
  let c6_i32_30 : BitVec 32 := 6#32
  let v46 : BitVec 1 := Scalar.cmpi .eq v35 c6_i32_30
  let c7_i32_31 : BitVec 32 := 7#32
  let c5_i32_28 : BitVec 32 := 5#32
  let v44 : BitVec 1 := Scalar.cmpi .eq v35 c5_i32_28
  let c11_i32_29 : BitVec 32 := 11#32
  let c4_i32_26 : BitVec 32 := 4#32
  let v42 : BitVec 1 := Scalar.cmpi .eq v35 c4_i32_26
  let c15_i32_27 : BitVec 32 := 15#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c15_i32_27 v41
  let v45 : BitVec 32 := Scalar.select v44 c11_i32_29 v43
  let v47 : BitVec 32 := Scalar.select v46 c7_i32_31 v45
  let v49 : BitVec 32 := Scalar.select v48 c3_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c13_i32_43 v57
  let v61 : BitVec 32 := Scalar.select v60 c9_i32_45 v59
  let v63 : BitVec 32 := Scalar.select v62 c5_i32_47 v61
  let v65 : BitVec 32 := Scalar.select v64 c1_i32_49 v63
  let c1_i32_239 : BitVec 32 := 1#32
  let v254 : BitVec 32 := Scalar.muli v65 c1_i32_239
  let v255 : BitVec 32 := Scalar.addi c0_i32_240 v254
  v255.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32_249 : BitVec 32 := 1024#32
  let v272 : BitVec 32 := Scalar.muli v2 c1024_i32_249
  let c0_i32_250 : BitVec 32 := 0#32
  ![v272.toNat, 0]
def k0_off5 (d0 : Dev nD) (c0_i32_126 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c32_i32 : BitVec 32 := 32#32
  let v143 : BitVec 32 := Scalar.addi v32 c32_i32
  let v144 : BitVec 32 := Scalar.subi v143 c0_i32_126
  let c1_i32_127 : BitVec 32 := 1#32
  let v145 : BitVec 32 := Scalar.subi v144 c1_i32_127
  let c16_i32_128 : BitVec 32 := 16#32
  let v146 : BitVec 32 := Scalar.remsi v145 c16_i32_128
  let c15_i32_158 : BitVec 32 := 15#32
  let v175 : BitVec 1 := Scalar.cmpi .eq v146 c15_i32_158
  let c1_i32_159 : BitVec 32 := 1#32
  let c14_i32_156 : BitVec 32 := 14#32
  let v173 : BitVec 1 := Scalar.cmpi .eq v146 c14_i32_156
  let c5_i32_157 : BitVec 32 := 5#32
  let c13_i32_154 : BitVec 32 := 13#32
  let v171 : BitVec 1 := Scalar.cmpi .eq v146 c13_i32_154
  let c9_i32_155 : BitVec 32 := 9#32
  let c12_i32_152 : BitVec 32 := 12#32
  let v169 : BitVec 1 := Scalar.cmpi .eq v146 c12_i32_152
  let c13_i32_153 : BitVec 32 := 13#32
  let c11_i32_150 : BitVec 32 := 11#32
  let v167 : BitVec 1 := Scalar.cmpi .eq v146 c11_i32_150
  let c14_i32_151 : BitVec 32 := 14#32
  let c10_i32_148 : BitVec 32 := 10#32
  let v165 : BitVec 1 := Scalar.cmpi .eq v146 c10_i32_148
  let c10_i32_149 : BitVec 32 := 10#32
  let c9_i32_146 : BitVec 32 := 9#32
  let v163 : BitVec 1 := Scalar.cmpi .eq v146 c9_i32_146
  let c6_i32_147 : BitVec 32 := 6#32
  let c8_i32_144 : BitVec 32 := 8#32
  let v161 : BitVec 1 := Scalar.cmpi .eq v146 c8_i32_144
  let c2_i32_145 : BitVec 32 := 2#32
  let c7_i32_142 : BitVec 32 := 7#32
  let v159 : BitVec 1 := Scalar.cmpi .eq v146 c7_i32_142
  let c3_i32_143 : BitVec 32 := 3#32
  let c6_i32_140 : BitVec 32 := 6#32
  let v157 : BitVec 1 := Scalar.cmpi .eq v146 c6_i32_140
  let c7_i32_141 : BitVec 32 := 7#32
  let c5_i32_138 : BitVec 32 := 5#32
  let v155 : BitVec 1 := Scalar.cmpi .eq v146 c5_i32_138
  let c11_i32_139 : BitVec 32 := 11#32
  let c4_i32_136 : BitVec 32 := 4#32
  let v153 : BitVec 1 := Scalar.cmpi .eq v146 c4_i32_136
  let c15_i32_137 : BitVec 32 := 15#32
  let c3_i32_134 : BitVec 32 := 3#32
  let v151 : BitVec 1 := Scalar.cmpi .eq v146 c3_i32_134
  let c12_i32_135 : BitVec 32 := 12#32
  let c2_i32_132 : BitVec 32 := 2#32
  let v149 : BitVec 1 := Scalar.cmpi .eq v146 c2_i32_132
  let c8_i32_133 : BitVec 32 := 8#32
  let c1_i32_129 : BitVec 32 := 1#32
  let v147 : BitVec 1 := Scalar.cmpi .eq v146 c1_i32_129
  let c4_i32_130 : BitVec 32 := 4#32
  let c0_i32_131 : BitVec 32 := 0#32
  let v148 : BitVec 32 := Scalar.select v147 c4_i32_130 c0_i32_131
  let v150 : BitVec 32 := Scalar.select v149 c8_i32_133 v148
  let v152 : BitVec 32 := Scalar.select v151 c12_i32_135 v150
  let v154 : BitVec 32 := Scalar.select v153 c15_i32_137 v152
  let v156 : BitVec 32 := Scalar.select v155 c11_i32_139 v154
  let v158 : BitVec 32 := Scalar.select v157 c7_i32_141 v156
  let v160 : BitVec 32 := Scalar.select v159 c3_i32_143 v158
  let v162 : BitVec 32 := Scalar.select v161 c2_i32_145 v160
  let v164 : BitVec 32 := Scalar.select v163 c6_i32_147 v162
  let v166 : BitVec 32 := Scalar.select v165 c10_i32_149 v164
  let v168 : BitVec 32 := Scalar.select v167 c14_i32_151 v166
  let v170 : BitVec 32 := Scalar.select v169 c13_i32_153 v168
  let v172 : BitVec 32 := Scalar.select v171 c9_i32_155 v170
  let v174 : BitVec 32 := Scalar.select v173 c5_i32_157 v172
  let v176 : BitVec 32 := Scalar.select v175 c1_i32_159 v174
  let c1024_i32_258 : BitVec 32 := 1024#32
  let v280 : BitVec 32 := Scalar.muli v176 c1024_i32_258
  let c0_i32_263 : BitVec 32 := 0#32
  ![v280.toNat, 0]
def k0_off6 (d0 : Dev nD) (c0_i32_201 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let v219 : BitVec 32 := Scalar.addi v32 c0_i32_201
  let c1_i32_202 : BitVec 32 := 1#32
  let v220 : BitVec 32 := Scalar.addi v219 c1_i32_202
  let c16_i32_203 : BitVec 32 := 16#32
  let v221 : BitVec 32 := Scalar.remsi v220 c16_i32_203
  let c15_i32_233 : BitVec 32 := 15#32
  let v250 : BitVec 1 := Scalar.cmpi .eq v221 c15_i32_233
  let c1_i32_234 : BitVec 32 := 1#32
  let c14_i32_231 : BitVec 32 := 14#32
  let v248 : BitVec 1 := Scalar.cmpi .eq v221 c14_i32_231
  let c5_i32_232 : BitVec 32 := 5#32
  let c13_i32_229 : BitVec 32 := 13#32
  let v246 : BitVec 1 := Scalar.cmpi .eq v221 c13_i32_229
  let c9_i32_230 : BitVec 32 := 9#32
  let c12_i32_227 : BitVec 32 := 12#32
  let v244 : BitVec 1 := Scalar.cmpi .eq v221 c12_i32_227
  let c13_i32_228 : BitVec 32 := 13#32
  let c11_i32_225 : BitVec 32 := 11#32
  let v242 : BitVec 1 := Scalar.cmpi .eq v221 c11_i32_225
  let c14_i32_226 : BitVec 32 := 14#32
  let c10_i32_223 : BitVec 32 := 10#32
  let v240 : BitVec 1 := Scalar.cmpi .eq v221 c10_i32_223
  let c10_i32_224 : BitVec 32 := 10#32
  let c9_i32_221 : BitVec 32 := 9#32
  let v238 : BitVec 1 := Scalar.cmpi .eq v221 c9_i32_221
  let c6_i32_222 : BitVec 32 := 6#32
  let c8_i32_219 : BitVec 32 := 8#32
  let v236 : BitVec 1 := Scalar.cmpi .eq v221 c8_i32_219
  let c2_i32_220 : BitVec 32 := 2#32
  let c7_i32_217 : BitVec 32 := 7#32
  let v234 : BitVec 1 := Scalar.cmpi .eq v221 c7_i32_217
  let c3_i32_218 : BitVec 32 := 3#32
  let c6_i32_215 : BitVec 32 := 6#32
  let v232 : BitVec 1 := Scalar.cmpi .eq v221 c6_i32_215
  let c7_i32_216 : BitVec 32 := 7#32
  let c5_i32_213 : BitVec 32 := 5#32
  let v230 : BitVec 1 := Scalar.cmpi .eq v221 c5_i32_213
  let c11_i32_214 : BitVec 32 := 11#32
  let c4_i32_211 : BitVec 32 := 4#32
  let v228 : BitVec 1 := Scalar.cmpi .eq v221 c4_i32_211
  let c15_i32_212 : BitVec 32 := 15#32
  let c3_i32_209 : BitVec 32 := 3#32
  let v226 : BitVec 1 := Scalar.cmpi .eq v221 c3_i32_209
  let c12_i32_210 : BitVec 32 := 12#32
  let c2_i32_207 : BitVec 32 := 2#32
  let v224 : BitVec 1 := Scalar.cmpi .eq v221 c2_i32_207
  let c8_i32_208 : BitVec 32 := 8#32
  let c1_i32_204 : BitVec 32 := 1#32
  let v222 : BitVec 1 := Scalar.cmpi .eq v221 c1_i32_204
  let c4_i32_205 : BitVec 32 := 4#32
  let c0_i32_206 : BitVec 32 := 0#32
  let v223 : BitVec 32 := Scalar.select v222 c4_i32_205 c0_i32_206
  let v225 : BitVec 32 := Scalar.select v224 c8_i32_208 v223
  let v227 : BitVec 32 := Scalar.select v226 c12_i32_210 v225
  let v229 : BitVec 32 := Scalar.select v228 c15_i32_212 v227
  let v231 : BitVec 32 := Scalar.select v230 c11_i32_214 v229
  let v233 : BitVec 32 := Scalar.select v232 c7_i32_216 v231
  let v235 : BitVec 32 := Scalar.select v234 c3_i32_218 v233
  let v237 : BitVec 32 := Scalar.select v236 c2_i32_220 v235
  let v239 : BitVec 32 := Scalar.select v238 c6_i32_222 v237
  let v241 : BitVec 32 := Scalar.select v240 c10_i32_224 v239
  let v243 : BitVec 32 := Scalar.select v242 c14_i32_226 v241
  let v245 : BitVec 32 := Scalar.select v244 c13_i32_228 v243
  let v247 : BitVec 32 := Scalar.select v246 c9_i32_230 v245
  let v249 : BitVec 32 := Scalar.select v248 c5_i32_232 v247
  let v251 : BitVec 32 := Scalar.select v250 c1_i32_234 v249
  let c1024_i32_271 : BitVec 32 := 1024#32
  let v292 : BitVec 32 := Scalar.muli v251 c1024_i32_271
  let c0_i32_276 : BitVec 32 := 0#32
  ![v292.toNat, 0]
def k0_dev5 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_351 : BitVec 32 := 1#32
  let v368 : BitVec 32 := Scalar.muli v97 c1_i32_351
  let v369 : BitVec 32 := Scalar.addi c0_i32_352 v368
  v369.toNat
def k0_dev6 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c1_i32_49 : BitVec 32 := 1#32
  let c14_i32_46 : BitVec 32 := 14#32
  let v62 : BitVec 1 := Scalar.cmpi .eq v35 c14_i32_46
  let c5_i32_47 : BitVec 32 := 5#32
  let c13_i32_44 : BitVec 32 := 13#32
  let v60 : BitVec 1 := Scalar.cmpi .eq v35 c13_i32_44
  let c9_i32_45 : BitVec 32 := 9#32
  let c12_i32_42 : BitVec 32 := 12#32
  let v58 : BitVec 1 := Scalar.cmpi .eq v35 c12_i32_42
  let c13_i32_43 : BitVec 32 := 13#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c3_i32_33 : BitVec 32 := 3#32
  let c6_i32_30 : BitVec 32 := 6#32
  let v46 : BitVec 1 := Scalar.cmpi .eq v35 c6_i32_30
  let c7_i32_31 : BitVec 32 := 7#32
  let c5_i32_28 : BitVec 32 := 5#32
  let v44 : BitVec 1 := Scalar.cmpi .eq v35 c5_i32_28
  let c11_i32_29 : BitVec 32 := 11#32
  let c4_i32_26 : BitVec 32 := 4#32
  let v42 : BitVec 1 := Scalar.cmpi .eq v35 c4_i32_26
  let c15_i32_27 : BitVec 32 := 15#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c15_i32_27 v41
  let v45 : BitVec 32 := Scalar.select v44 c11_i32_29 v43
  let v47 : BitVec 32 := Scalar.select v46 c7_i32_31 v45
  let v49 : BitVec 32 := Scalar.select v48 c3_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c13_i32_43 v57
  let v61 : BitVec 32 := Scalar.select v60 c9_i32_45 v59
  let v63 : BitVec 32 := Scalar.select v62 c5_i32_47 v61
  let v65 : BitVec 32 := Scalar.select v64 c1_i32_49 v63
  let c1_i32_426 : BitVec 32 := 1#32
  let v443 : BitVec 32 := Scalar.muli v65 c1_i32_426
  let v444 : BitVec 32 := Scalar.addi c0_i32_427 v443
  v444.toNat
def k0_off7 (d0 : Dev nD) (c1_i32_279 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_278 : BitVec 32 := 16#32
  let v299 : BitVec 32 := Scalar.addi v32 c16_i32_278
  let v300 : BitVec 32 := Scalar.subi v299 c1_i32_279
  let c16_i32_280 : BitVec 32 := 16#32
  let v301 : BitVec 32 := Scalar.remsi v300 c16_i32_280
  let c15_i32_310 : BitVec 32 := 15#32
  let v330 : BitVec 1 := Scalar.cmpi .eq v301 c15_i32_310
  let c1_i32_311 : BitVec 32 := 1#32
  let c14_i32_308 : BitVec 32 := 14#32
  let v328 : BitVec 1 := Scalar.cmpi .eq v301 c14_i32_308
  let c5_i32_309 : BitVec 32 := 5#32
  let c13_i32_306 : BitVec 32 := 13#32
  let v326 : BitVec 1 := Scalar.cmpi .eq v301 c13_i32_306
  let c9_i32_307 : BitVec 32 := 9#32
  let c12_i32_304 : BitVec 32 := 12#32
  let v324 : BitVec 1 := Scalar.cmpi .eq v301 c12_i32_304
  let c13_i32_305 : BitVec 32 := 13#32
  let c11_i32_302 : BitVec 32 := 11#32
  let v322 : BitVec 1 := Scalar.cmpi .eq v301 c11_i32_302
  let c14_i32_303 : BitVec 32 := 14#32
  let c10_i32_300 : BitVec 32 := 10#32
  let v320 : BitVec 1 := Scalar.cmpi .eq v301 c10_i32_300
  let c10_i32_301 : BitVec 32 := 10#32
  let c9_i32_298 : BitVec 32 := 9#32
  let v318 : BitVec 1 := Scalar.cmpi .eq v301 c9_i32_298
  let c6_i32_299 : BitVec 32 := 6#32
  let c8_i32_296 : BitVec 32 := 8#32
  let v316 : BitVec 1 := Scalar.cmpi .eq v301 c8_i32_296
  let c2_i32_297 : BitVec 32 := 2#32
  let c7_i32_294 : BitVec 32 := 7#32
  let v314 : BitVec 1 := Scalar.cmpi .eq v301 c7_i32_294
  let c3_i32_295 : BitVec 32 := 3#32
  let c6_i32_292 : BitVec 32 := 6#32
  let v312 : BitVec 1 := Scalar.cmpi .eq v301 c6_i32_292
  let c7_i32_293 : BitVec 32 := 7#32
  let c5_i32_290 : BitVec 32 := 5#32
  let v310 : BitVec 1 := Scalar.cmpi .eq v301 c5_i32_290
  let c11_i32_291 : BitVec 32 := 11#32
  let c4_i32_288 : BitVec 32 := 4#32
  let v308 : BitVec 1 := Scalar.cmpi .eq v301 c4_i32_288
  let c15_i32_289 : BitVec 32 := 15#32
  let c3_i32_286 : BitVec 32 := 3#32
  let v306 : BitVec 1 := Scalar.cmpi .eq v301 c3_i32_286
  let c12_i32_287 : BitVec 32 := 12#32
  let c2_i32_284 : BitVec 32 := 2#32
  let v304 : BitVec 1 := Scalar.cmpi .eq v301 c2_i32_284
  let c8_i32_285 : BitVec 32 := 8#32
  let c1_i32_281 : BitVec 32 := 1#32
  let v302 : BitVec 1 := Scalar.cmpi .eq v301 c1_i32_281
  let c4_i32_282 : BitVec 32 := 4#32
  let c0_i32_283 : BitVec 32 := 0#32
  let v303 : BitVec 32 := Scalar.select v302 c4_i32_282 c0_i32_283
  let v305 : BitVec 32 := Scalar.select v304 c8_i32_285 v303
  let v307 : BitVec 32 := Scalar.select v306 c12_i32_287 v305
  let v309 : BitVec 32 := Scalar.select v308 c15_i32_289 v307
  let v311 : BitVec 32 := Scalar.select v310 c11_i32_291 v309
  let v313 : BitVec 32 := Scalar.select v312 c7_i32_293 v311
  let v315 : BitVec 32 := Scalar.select v314 c3_i32_295 v313
  let v317 : BitVec 32 := Scalar.select v316 c2_i32_297 v315
  let v319 : BitVec 32 := Scalar.select v318 c6_i32_299 v317
  let v321 : BitVec 32 := Scalar.select v320 c10_i32_301 v319
  let v323 : BitVec 32 := Scalar.select v322 c14_i32_303 v321
  let v325 : BitVec 32 := Scalar.select v324 c13_i32_305 v323
  let v327 : BitVec 32 := Scalar.select v326 c9_i32_307 v325
  let v329 : BitVec 32 := Scalar.select v328 c5_i32_309 v327
  let v331 : BitVec 32 := Scalar.select v330 c1_i32_311 v329
  let c1024_i32_430 : BitVec 32 := 1024#32
  let v451 : BitVec 32 := Scalar.muli v331 c1024_i32_430
  let v452 : Index := Scalar.indexCast v451
  let c0_431 : Index := 0#32
  ![v452.toNat, 0]
def k0_off8 (d0 : Dev nD) (c1_i32_279 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_278 : BitVec 32 := 16#32
  let v299 : BitVec 32 := Scalar.addi v32 c16_i32_278
  let v300 : BitVec 32 := Scalar.subi v299 c1_i32_279
  let c16_i32_280 : BitVec 32 := 16#32
  let v301 : BitVec 32 := Scalar.remsi v300 c16_i32_280
  let c15_i32_310 : BitVec 32 := 15#32
  let v330 : BitVec 1 := Scalar.cmpi .eq v301 c15_i32_310
  let c1_i32_311 : BitVec 32 := 1#32
  let c14_i32_308 : BitVec 32 := 14#32
  let v328 : BitVec 1 := Scalar.cmpi .eq v301 c14_i32_308
  let c5_i32_309 : BitVec 32 := 5#32
  let c13_i32_306 : BitVec 32 := 13#32
  let v326 : BitVec 1 := Scalar.cmpi .eq v301 c13_i32_306
  let c9_i32_307 : BitVec 32 := 9#32
  let c12_i32_304 : BitVec 32 := 12#32
  let v324 : BitVec 1 := Scalar.cmpi .eq v301 c12_i32_304
  let c13_i32_305 : BitVec 32 := 13#32
  let c11_i32_302 : BitVec 32 := 11#32
  let v322 : BitVec 1 := Scalar.cmpi .eq v301 c11_i32_302
  let c14_i32_303 : BitVec 32 := 14#32
  let c10_i32_300 : BitVec 32 := 10#32
  let v320 : BitVec 1 := Scalar.cmpi .eq v301 c10_i32_300
  let c10_i32_301 : BitVec 32 := 10#32
  let c9_i32_298 : BitVec 32 := 9#32
  let v318 : BitVec 1 := Scalar.cmpi .eq v301 c9_i32_298
  let c6_i32_299 : BitVec 32 := 6#32
  let c8_i32_296 : BitVec 32 := 8#32
  let v316 : BitVec 1 := Scalar.cmpi .eq v301 c8_i32_296
  let c2_i32_297 : BitVec 32 := 2#32
  let c7_i32_294 : BitVec 32 := 7#32
  let v314 : BitVec 1 := Scalar.cmpi .eq v301 c7_i32_294
  let c3_i32_295 : BitVec 32 := 3#32
  let c6_i32_292 : BitVec 32 := 6#32
  let v312 : BitVec 1 := Scalar.cmpi .eq v301 c6_i32_292
  let c7_i32_293 : BitVec 32 := 7#32
  let c5_i32_290 : BitVec 32 := 5#32
  let v310 : BitVec 1 := Scalar.cmpi .eq v301 c5_i32_290
  let c11_i32_291 : BitVec 32 := 11#32
  let c4_i32_288 : BitVec 32 := 4#32
  let v308 : BitVec 1 := Scalar.cmpi .eq v301 c4_i32_288
  let c15_i32_289 : BitVec 32 := 15#32
  let c3_i32_286 : BitVec 32 := 3#32
  let v306 : BitVec 1 := Scalar.cmpi .eq v301 c3_i32_286
  let c12_i32_287 : BitVec 32 := 12#32
  let c2_i32_284 : BitVec 32 := 2#32
  let v304 : BitVec 1 := Scalar.cmpi .eq v301 c2_i32_284
  let c8_i32_285 : BitVec 32 := 8#32
  let c1_i32_281 : BitVec 32 := 1#32
  let v302 : BitVec 1 := Scalar.cmpi .eq v301 c1_i32_281
  let c4_i32_282 : BitVec 32 := 4#32
  let c0_i32_283 : BitVec 32 := 0#32
  let v303 : BitVec 32 := Scalar.select v302 c4_i32_282 c0_i32_283
  let v305 : BitVec 32 := Scalar.select v304 c8_i32_285 v303
  let v307 : BitVec 32 := Scalar.select v306 c12_i32_287 v305
  let v309 : BitVec 32 := Scalar.select v308 c15_i32_289 v307
  let v311 : BitVec 32 := Scalar.select v310 c11_i32_291 v309
  let v313 : BitVec 32 := Scalar.select v312 c7_i32_293 v311
  let v315 : BitVec 32 := Scalar.select v314 c3_i32_295 v313
  let v317 : BitVec 32 := Scalar.select v316 c2_i32_297 v315
  let v319 : BitVec 32 := Scalar.select v318 c6_i32_299 v317
  let v321 : BitVec 32 := Scalar.select v320 c10_i32_301 v319
  let v323 : BitVec 32 := Scalar.select v322 c14_i32_303 v321
  let v325 : BitVec 32 := Scalar.select v324 c13_i32_305 v323
  let v327 : BitVec 32 := Scalar.select v326 c9_i32_307 v325
  let v329 : BitVec 32 := Scalar.select v328 c5_i32_309 v327
  let v331 : BitVec 32 := Scalar.select v330 c1_i32_311 v329
  let c1024_i32_437 : BitVec 32 := 1024#32
  let v461 : BitVec 32 := Scalar.muli v331 c1024_i32_437
  let c0_i32_438 : BitVec 32 := 0#32
  ![v461.toNat, 0]
def k0_off9 (d0 : Dev nD) (c1_i32_440 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let v464 : BitVec 32 := Scalar.addi v32 c1_i32_440
  let c16_i32_441 : BitVec 32 := 16#32
  let v465 : BitVec 32 := Scalar.remsi v464 c16_i32_441
  let c15_i32_471 : BitVec 32 := 15#32
  let v494 : BitVec 1 := Scalar.cmpi .eq v465 c15_i32_471
  let c1_i32_472 : BitVec 32 := 1#32
  let c14_i32_469 : BitVec 32 := 14#32
  let v492 : BitVec 1 := Scalar.cmpi .eq v465 c14_i32_469
  let c5_i32_470 : BitVec 32 := 5#32
  let c13_i32_467 : BitVec 32 := 13#32
  let v490 : BitVec 1 := Scalar.cmpi .eq v465 c13_i32_467
  let c9_i32_468 : BitVec 32 := 9#32
  let c12_i32_465 : BitVec 32 := 12#32
  let v488 : BitVec 1 := Scalar.cmpi .eq v465 c12_i32_465
  let c13_i32_466 : BitVec 32 := 13#32
  let c11_i32_463 : BitVec 32 := 11#32
  let v486 : BitVec 1 := Scalar.cmpi .eq v465 c11_i32_463
  let c14_i32_464 : BitVec 32 := 14#32
  let c10_i32_461 : BitVec 32 := 10#32
  let v484 : BitVec 1 := Scalar.cmpi .eq v465 c10_i32_461
  let c10_i32_462 : BitVec 32 := 10#32
  let c9_i32_459 : BitVec 32 := 9#32
  let v482 : BitVec 1 := Scalar.cmpi .eq v465 c9_i32_459
  let c6_i32_460 : BitVec 32 := 6#32
  let c8_i32_457 : BitVec 32 := 8#32
  let v480 : BitVec 1 := Scalar.cmpi .eq v465 c8_i32_457
  let c2_i32_458 : BitVec 32 := 2#32
  let c7_i32_455 : BitVec 32 := 7#32
  let v478 : BitVec 1 := Scalar.cmpi .eq v465 c7_i32_455
  let c3_i32_456 : BitVec 32 := 3#32
  let c6_i32_453 : BitVec 32 := 6#32
  let v476 : BitVec 1 := Scalar.cmpi .eq v465 c6_i32_453
  let c7_i32_454 : BitVec 32 := 7#32
  let c5_i32_451 : BitVec 32 := 5#32
  let v474 : BitVec 1 := Scalar.cmpi .eq v465 c5_i32_451
  let c11_i32_452 : BitVec 32 := 11#32
  let c4_i32_449 : BitVec 32 := 4#32
  let v472 : BitVec 1 := Scalar.cmpi .eq v465 c4_i32_449
  let c15_i32_450 : BitVec 32 := 15#32
  let c3_i32_447 : BitVec 32 := 3#32
  let v470 : BitVec 1 := Scalar.cmpi .eq v465 c3_i32_447
  let c12_i32_448 : BitVec 32 := 12#32
  let c2_i32_445 : BitVec 32 := 2#32
  let v468 : BitVec 1 := Scalar.cmpi .eq v465 c2_i32_445
  let c8_i32_446 : BitVec 32 := 8#32
  let c1_i32_442 : BitVec 32 := 1#32
  let v466 : BitVec 1 := Scalar.cmpi .eq v465 c1_i32_442
  let c4_i32_443 : BitVec 32 := 4#32
  let c0_i32_444 : BitVec 32 := 0#32
  let v467 : BitVec 32 := Scalar.select v466 c4_i32_443 c0_i32_444
  let v469 : BitVec 32 := Scalar.select v468 c8_i32_446 v467
  let v471 : BitVec 32 := Scalar.select v470 c12_i32_448 v469
  let v473 : BitVec 32 := Scalar.select v472 c15_i32_450 v471
  let v475 : BitVec 32 := Scalar.select v474 c11_i32_452 v473
  let v477 : BitVec 32 := Scalar.select v476 c7_i32_454 v475
  let v479 : BitVec 32 := Scalar.select v478 c3_i32_456 v477
  let v481 : BitVec 32 := Scalar.select v480 c2_i32_458 v479
  let v483 : BitVec 32 := Scalar.select v482 c6_i32_460 v481
  let v485 : BitVec 32 := Scalar.select v484 c10_i32_462 v483
  let v487 : BitVec 32 := Scalar.select v486 c14_i32_464 v485
  let v489 : BitVec 32 := Scalar.select v488 c13_i32_466 v487
  let v491 : BitVec 32 := Scalar.select v490 c9_i32_468 v489
  let v493 : BitVec 32 := Scalar.select v492 c5_i32_470 v491
  let v495 : BitVec 32 := Scalar.select v494 c1_i32_472 v493
  let c1024_i32_473 : BitVec 32 := 1024#32
  let v496 : BitVec 32 := Scalar.muli v495 c1024_i32_473
  let v497 : Index := Scalar.indexCast v496
  let c0_474 : Index := 0#32
  ![v497.toNat, 0]
def k0_off10 (d0 : Dev nD) (c1_i32_440 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let v464 : BitVec 32 := Scalar.addi v32 c1_i32_440
  let c16_i32_441 : BitVec 32 := 16#32
  let v465 : BitVec 32 := Scalar.remsi v464 c16_i32_441
  let c15_i32_471 : BitVec 32 := 15#32
  let v494 : BitVec 1 := Scalar.cmpi .eq v465 c15_i32_471
  let c1_i32_472 : BitVec 32 := 1#32
  let c14_i32_469 : BitVec 32 := 14#32
  let v492 : BitVec 1 := Scalar.cmpi .eq v465 c14_i32_469
  let c5_i32_470 : BitVec 32 := 5#32
  let c13_i32_467 : BitVec 32 := 13#32
  let v490 : BitVec 1 := Scalar.cmpi .eq v465 c13_i32_467
  let c9_i32_468 : BitVec 32 := 9#32
  let c12_i32_465 : BitVec 32 := 12#32
  let v488 : BitVec 1 := Scalar.cmpi .eq v465 c12_i32_465
  let c13_i32_466 : BitVec 32 := 13#32
  let c11_i32_463 : BitVec 32 := 11#32
  let v486 : BitVec 1 := Scalar.cmpi .eq v465 c11_i32_463
  let c14_i32_464 : BitVec 32 := 14#32
  let c10_i32_461 : BitVec 32 := 10#32
  let v484 : BitVec 1 := Scalar.cmpi .eq v465 c10_i32_461
  let c10_i32_462 : BitVec 32 := 10#32
  let c9_i32_459 : BitVec 32 := 9#32
  let v482 : BitVec 1 := Scalar.cmpi .eq v465 c9_i32_459
  let c6_i32_460 : BitVec 32 := 6#32
  let c8_i32_457 : BitVec 32 := 8#32
  let v480 : BitVec 1 := Scalar.cmpi .eq v465 c8_i32_457
  let c2_i32_458 : BitVec 32 := 2#32
  let c7_i32_455 : BitVec 32 := 7#32
  let v478 : BitVec 1 := Scalar.cmpi .eq v465 c7_i32_455
  let c3_i32_456 : BitVec 32 := 3#32
  let c6_i32_453 : BitVec 32 := 6#32
  let v476 : BitVec 1 := Scalar.cmpi .eq v465 c6_i32_453
  let c7_i32_454 : BitVec 32 := 7#32
  let c5_i32_451 : BitVec 32 := 5#32
  let v474 : BitVec 1 := Scalar.cmpi .eq v465 c5_i32_451
  let c11_i32_452 : BitVec 32 := 11#32
  let c4_i32_449 : BitVec 32 := 4#32
  let v472 : BitVec 1 := Scalar.cmpi .eq v465 c4_i32_449
  let c15_i32_450 : BitVec 32 := 15#32
  let c3_i32_447 : BitVec 32 := 3#32
  let v470 : BitVec 1 := Scalar.cmpi .eq v465 c3_i32_447
  let c12_i32_448 : BitVec 32 := 12#32
  let c2_i32_445 : BitVec 32 := 2#32
  let v468 : BitVec 1 := Scalar.cmpi .eq v465 c2_i32_445
  let c8_i32_446 : BitVec 32 := 8#32
  let c1_i32_442 : BitVec 32 := 1#32
  let v466 : BitVec 1 := Scalar.cmpi .eq v465 c1_i32_442
  let c4_i32_443 : BitVec 32 := 4#32
  let c0_i32_444 : BitVec 32 := 0#32
  let v467 : BitVec 32 := Scalar.select v466 c4_i32_443 c0_i32_444
  let v469 : BitVec 32 := Scalar.select v468 c8_i32_446 v467
  let v471 : BitVec 32 := Scalar.select v470 c12_i32_448 v469
  let v473 : BitVec 32 := Scalar.select v472 c15_i32_450 v471
  let v475 : BitVec 32 := Scalar.select v474 c11_i32_452 v473
  let v477 : BitVec 32 := Scalar.select v476 c7_i32_454 v475
  let v479 : BitVec 32 := Scalar.select v478 c3_i32_456 v477
  let v481 : BitVec 32 := Scalar.select v480 c2_i32_458 v479
  let v483 : BitVec 32 := Scalar.select v482 c6_i32_460 v481
  let v485 : BitVec 32 := Scalar.select v484 c10_i32_462 v483
  let v487 : BitVec 32 := Scalar.select v486 c14_i32_464 v485
  let v489 : BitVec 32 := Scalar.select v488 c13_i32_466 v487
  let v491 : BitVec 32 := Scalar.select v490 c9_i32_468 v489
  let v493 : BitVec 32 := Scalar.select v492 c5_i32_470 v491
  let v495 : BitVec 32 := Scalar.select v494 c1_i32_472 v493
  let c1024_i32_480 : BitVec 32 := 1024#32
  let v506 : BitVec 32 := Scalar.muli v495 c1024_i32_480
  let c0_i32_481 : BitVec 32 := 0#32
  ![v506.toNat, 0]
def k0_dev7 (d0 : Dev nD) : Nat :=
  let c0_i32_583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_582 : BitVec 32 := 1#32
  let v602 : BitVec 32 := Scalar.muli v97 c1_i32_582
  let v603 : BitVec 32 := Scalar.addi c0_i32_583 v602
  v603.toNat
def k0_dev8 (d0 : Dev nD) : Nat :=
  let c0_i32_658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c1_i32_49 : BitVec 32 := 1#32
  let c14_i32_46 : BitVec 32 := 14#32
  let v62 : BitVec 1 := Scalar.cmpi .eq v35 c14_i32_46
  let c5_i32_47 : BitVec 32 := 5#32
  let c13_i32_44 : BitVec 32 := 13#32
  let v60 : BitVec 1 := Scalar.cmpi .eq v35 c13_i32_44
  let c9_i32_45 : BitVec 32 := 9#32
  let c12_i32_42 : BitVec 32 := 12#32
  let v58 : BitVec 1 := Scalar.cmpi .eq v35 c12_i32_42
  let c13_i32_43 : BitVec 32 := 13#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c3_i32_33 : BitVec 32 := 3#32
  let c6_i32_30 : BitVec 32 := 6#32
  let v46 : BitVec 1 := Scalar.cmpi .eq v35 c6_i32_30
  let c7_i32_31 : BitVec 32 := 7#32
  let c5_i32_28 : BitVec 32 := 5#32
  let v44 : BitVec 1 := Scalar.cmpi .eq v35 c5_i32_28
  let c11_i32_29 : BitVec 32 := 11#32
  let c4_i32_26 : BitVec 32 := 4#32
  let v42 : BitVec 1 := Scalar.cmpi .eq v35 c4_i32_26
  let c15_i32_27 : BitVec 32 := 15#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c15_i32_27 v41
  let v45 : BitVec 32 := Scalar.select v44 c11_i32_29 v43
  let v47 : BitVec 32 := Scalar.select v46 c7_i32_31 v45
  let v49 : BitVec 32 := Scalar.select v48 c3_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c13_i32_43 v57
  let v61 : BitVec 32 := Scalar.select v60 c9_i32_45 v59
  let v63 : BitVec 32 := Scalar.select v62 c5_i32_47 v61
  let v65 : BitVec 32 := Scalar.select v64 c1_i32_49 v63
  let c1_i32_657 : BitVec 32 := 1#32
  let v677 : BitVec 32 := Scalar.muli v65 c1_i32_657
  let v678 : BitVec 32 := Scalar.addi c0_i32_658 v677
  v678.toNat
def k0_dev9 (d0 : Dev nD) : Nat :=
  let c0_i32_814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_813 : BitVec 32 := 1#32
  let v836 : BitVec 32 := Scalar.muli v97 c1_i32_813
  let v837 : BitVec 32 := Scalar.addi c0_i32_814 v836
  v837.toNat
def k0_dev10 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c1_i32_49 : BitVec 32 := 1#32
  let c14_i32_46 : BitVec 32 := 14#32
  let v62 : BitVec 1 := Scalar.cmpi .eq v35 c14_i32_46
  let c5_i32_47 : BitVec 32 := 5#32
  let c13_i32_44 : BitVec 32 := 13#32
  let v60 : BitVec 1 := Scalar.cmpi .eq v35 c13_i32_44
  let c9_i32_45 : BitVec 32 := 9#32
  let c12_i32_42 : BitVec 32 := 12#32
  let v58 : BitVec 1 := Scalar.cmpi .eq v35 c12_i32_42
  let c13_i32_43 : BitVec 32 := 13#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c3_i32_33 : BitVec 32 := 3#32
  let c6_i32_30 : BitVec 32 := 6#32
  let v46 : BitVec 1 := Scalar.cmpi .eq v35 c6_i32_30
  let c7_i32_31 : BitVec 32 := 7#32
  let c5_i32_28 : BitVec 32 := 5#32
  let v44 : BitVec 1 := Scalar.cmpi .eq v35 c5_i32_28
  let c11_i32_29 : BitVec 32 := 11#32
  let c4_i32_26 : BitVec 32 := 4#32
  let v42 : BitVec 1 := Scalar.cmpi .eq v35 c4_i32_26
  let c15_i32_27 : BitVec 32 := 15#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c15_i32_27 v41
  let v45 : BitVec 32 := Scalar.select v44 c11_i32_29 v43
  let v47 : BitVec 32 := Scalar.select v46 c7_i32_31 v45
  let v49 : BitVec 32 := Scalar.select v48 c3_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c13_i32_43 v57
  let v61 : BitVec 32 := Scalar.select v60 c9_i32_45 v59
  let v63 : BitVec 32 := Scalar.select v62 c5_i32_47 v61
  let v65 : BitVec 32 := Scalar.select v64 c1_i32_49 v63
  let c1_i32_888 : BitVec 32 := 1#32
  let v911 : BitVec 32 := Scalar.muli v65 c1_i32_888
  let v912 : BitVec 32 := Scalar.addi c0_i32_889 v911
  v912.toNat
def k0_dev11 (d0 : Dev nD) : Nat :=
  let c0_i32_1045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_1044 : BitVec 32 := 1#32
  let v1070 : BitVec 32 := Scalar.muli v97 c1_i32_1044
  let v1071 : BitVec 32 := Scalar.addi c0_i32_1045 v1070
  v1071.toNat
def k0_dev12 (d0 : Dev nD) : Nat :=
  let c0_i32_1120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c1_i32_49 : BitVec 32 := 1#32
  let c14_i32_46 : BitVec 32 := 14#32
  let v62 : BitVec 1 := Scalar.cmpi .eq v35 c14_i32_46
  let c5_i32_47 : BitVec 32 := 5#32
  let c13_i32_44 : BitVec 32 := 13#32
  let v60 : BitVec 1 := Scalar.cmpi .eq v35 c13_i32_44
  let c9_i32_45 : BitVec 32 := 9#32
  let c12_i32_42 : BitVec 32 := 12#32
  let v58 : BitVec 1 := Scalar.cmpi .eq v35 c12_i32_42
  let c13_i32_43 : BitVec 32 := 13#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c3_i32_33 : BitVec 32 := 3#32
  let c6_i32_30 : BitVec 32 := 6#32
  let v46 : BitVec 1 := Scalar.cmpi .eq v35 c6_i32_30
  let c7_i32_31 : BitVec 32 := 7#32
  let c5_i32_28 : BitVec 32 := 5#32
  let v44 : BitVec 1 := Scalar.cmpi .eq v35 c5_i32_28
  let c11_i32_29 : BitVec 32 := 11#32
  let c4_i32_26 : BitVec 32 := 4#32
  let v42 : BitVec 1 := Scalar.cmpi .eq v35 c4_i32_26
  let c15_i32_27 : BitVec 32 := 15#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c15_i32_27 v41
  let v45 : BitVec 32 := Scalar.select v44 c11_i32_29 v43
  let v47 : BitVec 32 := Scalar.select v46 c7_i32_31 v45
  let v49 : BitVec 32 := Scalar.select v48 c3_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c13_i32_43 v57
  let v61 : BitVec 32 := Scalar.select v60 c9_i32_45 v59
  let v63 : BitVec 32 := Scalar.select v62 c5_i32_47 v61
  let v65 : BitVec 32 := Scalar.select v64 c1_i32_49 v63
  let c1_i32_1119 : BitVec 32 := 1#32
  let v1145 : BitVec 32 := Scalar.muli v65 c1_i32_1119
  let v1146 : BitVec 32 := Scalar.addi c0_i32_1120 v1145
  v1146.toNat
def k0_dev13 (d0 : Dev nD) : Nat :=
  let c0_i32_1276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_1275 : BitVec 32 := 1#32
  let v1304 : BitVec 32 := Scalar.muli v97 c1_i32_1275
  let v1305 : BitVec 32 := Scalar.addi c0_i32_1276 v1304
  v1305.toNat
def k0_dev14 (d0 : Dev nD) : Nat :=
  let c0_i32_1351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c1_i32_49 : BitVec 32 := 1#32
  let c14_i32_46 : BitVec 32 := 14#32
  let v62 : BitVec 1 := Scalar.cmpi .eq v35 c14_i32_46
  let c5_i32_47 : BitVec 32 := 5#32
  let c13_i32_44 : BitVec 32 := 13#32
  let v60 : BitVec 1 := Scalar.cmpi .eq v35 c13_i32_44
  let c9_i32_45 : BitVec 32 := 9#32
  let c12_i32_42 : BitVec 32 := 12#32
  let v58 : BitVec 1 := Scalar.cmpi .eq v35 c12_i32_42
  let c13_i32_43 : BitVec 32 := 13#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c3_i32_33 : BitVec 32 := 3#32
  let c6_i32_30 : BitVec 32 := 6#32
  let v46 : BitVec 1 := Scalar.cmpi .eq v35 c6_i32_30
  let c7_i32_31 : BitVec 32 := 7#32
  let c5_i32_28 : BitVec 32 := 5#32
  let v44 : BitVec 1 := Scalar.cmpi .eq v35 c5_i32_28
  let c11_i32_29 : BitVec 32 := 11#32
  let c4_i32_26 : BitVec 32 := 4#32
  let v42 : BitVec 1 := Scalar.cmpi .eq v35 c4_i32_26
  let c15_i32_27 : BitVec 32 := 15#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c15_i32_27 v41
  let v45 : BitVec 32 := Scalar.select v44 c11_i32_29 v43
  let v47 : BitVec 32 := Scalar.select v46 c7_i32_31 v45
  let v49 : BitVec 32 := Scalar.select v48 c3_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c13_i32_43 v57
  let v61 : BitVec 32 := Scalar.select v60 c9_i32_45 v59
  let v63 : BitVec 32 := Scalar.select v62 c5_i32_47 v61
  let v65 : BitVec 32 := Scalar.select v64 c1_i32_49 v63
  let c1_i32_1350 : BitVec 32 := 1#32
  let v1379 : BitVec 32 := Scalar.muli v65 c1_i32_1350
  let v1380 : BitVec 32 := Scalar.addi c0_i32_1351 v1379
  v1380.toNat
def k0_dev15 (d0 : Dev nD) : Nat :=
  let c0_i32_1507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_1506 : BitVec 32 := 1#32
  let v1538 : BitVec 32 := Scalar.muli v97 c1_i32_1506
  let v1539 : BitVec 32 := Scalar.addi c0_i32_1507 v1538
  v1539.toNat
def k0_dev16 (d0 : Dev nD) : Nat :=
  let c0_i32_1582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c1_i32_49 : BitVec 32 := 1#32
  let c14_i32_46 : BitVec 32 := 14#32
  let v62 : BitVec 1 := Scalar.cmpi .eq v35 c14_i32_46
  let c5_i32_47 : BitVec 32 := 5#32
  let c13_i32_44 : BitVec 32 := 13#32
  let v60 : BitVec 1 := Scalar.cmpi .eq v35 c13_i32_44
  let c9_i32_45 : BitVec 32 := 9#32
  let c12_i32_42 : BitVec 32 := 12#32
  let v58 : BitVec 1 := Scalar.cmpi .eq v35 c12_i32_42
  let c13_i32_43 : BitVec 32 := 13#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c3_i32_33 : BitVec 32 := 3#32
  let c6_i32_30 : BitVec 32 := 6#32
  let v46 : BitVec 1 := Scalar.cmpi .eq v35 c6_i32_30
  let c7_i32_31 : BitVec 32 := 7#32
  let c5_i32_28 : BitVec 32 := 5#32
  let v44 : BitVec 1 := Scalar.cmpi .eq v35 c5_i32_28
  let c11_i32_29 : BitVec 32 := 11#32
  let c4_i32_26 : BitVec 32 := 4#32
  let v42 : BitVec 1 := Scalar.cmpi .eq v35 c4_i32_26
  let c15_i32_27 : BitVec 32 := 15#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c15_i32_27 v41
  let v45 : BitVec 32 := Scalar.select v44 c11_i32_29 v43
  let v47 : BitVec 32 := Scalar.select v46 c7_i32_31 v45
  let v49 : BitVec 32 := Scalar.select v48 c3_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c13_i32_43 v57
  let v61 : BitVec 32 := Scalar.select v60 c9_i32_45 v59
  let v63 : BitVec 32 := Scalar.select v62 c5_i32_47 v61
  let v65 : BitVec 32 := Scalar.select v64 c1_i32_49 v63
  let c1_i32_1581 : BitVec 32 := 1#32
  let v1613 : BitVec 32 := Scalar.muli v65 c1_i32_1581
  let v1614 : BitVec 32 := Scalar.addi c0_i32_1582 v1613
  v1614.toNat
def k0_dev17 (d0 : Dev nD) : Nat :=
  let c0_i32_1738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c1_i32_82 : BitVec 32 := 1#32
  let c14_i32_79 : BitVec 32 := 14#32
  let v94 : BitVec 1 := Scalar.cmpi .eq v67 c14_i32_79
  let c5_i32_80 : BitVec 32 := 5#32
  let c13_i32_77 : BitVec 32 := 13#32
  let v92 : BitVec 1 := Scalar.cmpi .eq v67 c13_i32_77
  let c9_i32_78 : BitVec 32 := 9#32
  let c12_i32_75 : BitVec 32 := 12#32
  let v90 : BitVec 1 := Scalar.cmpi .eq v67 c12_i32_75
  let c13_i32_76 : BitVec 32 := 13#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c3_i32_66 : BitVec 32 := 3#32
  let c6_i32_63 : BitVec 32 := 6#32
  let v78 : BitVec 1 := Scalar.cmpi .eq v67 c6_i32_63
  let c7_i32_64 : BitVec 32 := 7#32
  let c5_i32_61 : BitVec 32 := 5#32
  let v76 : BitVec 1 := Scalar.cmpi .eq v67 c5_i32_61
  let c11_i32_62 : BitVec 32 := 11#32
  let c4_i32_59 : BitVec 32 := 4#32
  let v74 : BitVec 1 := Scalar.cmpi .eq v67 c4_i32_59
  let c15_i32_60 : BitVec 32 := 15#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c15_i32_60 v73
  let v77 : BitVec 32 := Scalar.select v76 c11_i32_62 v75
  let v79 : BitVec 32 := Scalar.select v78 c7_i32_64 v77
  let v81 : BitVec 32 := Scalar.select v80 c3_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c13_i32_76 v89
  let v93 : BitVec 32 := Scalar.select v92 c9_i32_78 v91
  let v95 : BitVec 32 := Scalar.select v94 c5_i32_80 v93
  let v97 : BitVec 32 := Scalar.select v96 c1_i32_82 v95
  let c1_i32_1737 : BitVec 32 := 1#32
  let v1772 : BitVec 32 := Scalar.muli v97 c1_i32_1737
  let v1773 : BitVec 32 := Scalar.addi c0_i32_1738 v1772
  v1773.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x1024, .f32⟩
  | .hbm, ⟨3, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ring.lean ====
/- The ring the sixteen devices are laid on, and which device's row block travels where at each hop. -/
module

public import Idealize.ShloMosaic.Lib.Pipeline.Launch
public import Idealize.ShloMosaic.Lib.Tactic

@[expose] public section

namespace Cert.Ring

/-- The device at each place of the ring. -/
def order : Fin 16 → Fin 16 := ![0, 4, 8, 12, 15, 11, 7, 3, 2, 6, 10, 14, 13, 9, 5, 1]

/-- The place of each device on the ring. -/
def place : Fin 16 → Fin 16 := ![0, 15, 8, 7, 1, 14, 9, 6, 2, 13, 10, 5, 3, 12, 11, 4]

/-- The neighbour a device sends to: the next device on the ring going clockwise (`true`), the one
    before it going counter-clockwise (`false`). -/
def nb (dir : Bool) (c : Fin 16) : Fin 16 := if dir then order (place c + 1) else order (place c - 1)

/-- The device whose row block device `c` holds after `h` hops in a direction. -/
def chunk (dir : Bool) (h : ℕ) (c : Fin 16) : Fin 16 :=
  if dir then order (place c - Fin.ofNat 16 h) else order (place c + Fin.ofNat 16 h)

/-- How many hops are made in each direction. -/
def hops (dir : Bool) : ℕ := if dir then 8 else 7

theorem hops_le (dir : Bool) : hops dir ≤ 8 := by cases dir <;> decide

/-- Going one way and then the other comes back. -/
theorem nb_nb (dir : Bool) (c : Fin 16) : nb (!dir) (nb dir c) = c := by revert dir c; decide

theorem nb_nb' (dir : Bool) (c : Fin 16) : nb dir (nb (!dir) c) = c := by revert dir c; decide

/-- The two neighbours differ. -/
theorem nb_ne (c : Fin 16) : nb true c ≠ nb false c := by revert c; decide

/-- After no hop a device holds its own block. -/
theorem chunk_zero (dir : Bool) (c : Fin 16) : chunk dir 0 c = c := by revert dir c; decide

/-- What a device sends at hop `h` is what its neighbour holds after `h + 1` hops. -/
theorem chunk_nb (dir : Bool) (h : ℕ) (hh : h < 8) (c : Fin 16) : chunk dir (h + 1) (nb dir c) = chunk dir h c := by
  revert dir h c; decide

/-- A step along the ring as a permutation of the devices. -/
def nbEquiv (dir : Bool) : Fin 16 ≃ Fin 16 := ⟨nb dir, nb (!dir), nb_nb dir, fun c => nb_nb' dir c⟩

/-- The blocks that reach device `c` in a direction. -/
def reach (dir : Bool) (c : Fin 16) : Finset (Fin 16) :=
  (Finset.Ico 0 (hops dir)).image fun j => chunk dir (j + 1) c

/-- Blocks reaching a device at different hops differ. -/
theorem chunk_injOn (dir : Bool) (c : Fin 16) :
    Set.InjOn (fun j => chunk dir (j + 1) c) (Finset.Ico 0 (hops dir)) := by
  have H : ∀ (dir : Bool) (c : Fin 16), ∀ i ∈ Finset.Ico 0 (hops dir), ∀ j ∈ Finset.Ico 0 (hops dir),
      chunk dir (i + 1) c = chunk dir (j + 1) c → i = j := by decide
  exact fun i hi j hj h => H dir c i hi j hj h

/-- A device's own block and those that reach it from either side are all sixteen. -/
theorem cover (c : Fin 16) : (Finset.univ : Finset (Fin 16)) = insert c (reach true c ∪ reach false c) := by
  revert c; decide

theorem own_not_mem (c : Fin 16) : c ∉ reach true c ∪ reach false c := by revert c; decide

theorem reach_disjoint (c : Fin 16) : Disjoint (reach true c) (reach false c) := by revert c; decide

open Idealize.SL Idealize.SL.RA Idealize.SL.BI Idealize.SL.BI.BIBase in
/-- A family over all blocks, cut into a device's own block and those that reach it from either side. -/
theorem bigSep_blocks {M : Type} [URA M] (c : Fin 16) (Φ : Fin 16 → sProp M) :
    bigSep Finset.univ Φ
      = iprop(Φ c ∗ (bigSep (Finset.Ico 0 (hops true)) fun j => Φ (chunk true (j + 1) c))
          ∗ bigSep (Finset.Ico 0 (hops false)) fun j => Φ (chunk false (j + 1) c)) := by
  rw [cover c, bigSep_insert (own_not_mem c), bigSep_union (reach_disjoint c)]
  unfold reach
  rw [bigSep_image_of_injOn (chunk_injOn true c), bigSep_image_of_injOn (chunk_injOn false c)]
  rfl

/-! ## The semaphores of the transfers

Of the 33 transfer semaphores, 0 and 1 stage the inputs, 32 serves the copies to the result; the others
count, per hop and direction, the block sent (2–9 clockwise, 18–24 counter-clockwise) and the block
received (10–17 and 25–31). -/

/-- The semaphore counting the block sent at hop `h`. -/
def sNum (dir : Bool) (h : ℕ) : Fin 33 := Fin.ofNat 33 (if dir then 2 + h else 18 + h)

/-- The semaphore counting the block received at hop `h`. -/
def rNum (dir : Bool) (h : ℕ) : Fin 33 := Fin.ofNat 33 (if dir then 10 + h else 25 + h)

/-- What a semaphore is for: whether it counts a block received, the direction and the hop. -/
def role (s : Fin 33) : Option (Bool × Bool × ℕ) :=
  if s.val < 2 then none
  else if s.val < 10 then some (false, true, s.val - 2)
  else if s.val < 18 then some (true, true, s.val - 10)
  else if s.val < 25 then some (false, false, s.val - 18)
  else if s.val < 32 then some (true, false, s.val - 25)
  else none

theorem role_sNum {dir : Bool} {h : ℕ} (hh : h < hops dir) : role (sNum dir h) = some (false, dir, h) := by
  have H : ∀ dir : Bool, ∀ h, h < hops dir → role (sNum dir h) = some (false, dir, h) := by decide
  exact H dir h hh

theorem role_rNum {dir : Bool} {h : ℕ} (hh : h < hops dir) : role (rNum dir h) = some (true, dir, h) := by
  have H : ∀ dir : Bool, ∀ h, h < hops dir → role (rNum dir h) = some (true, dir, h) := by decide
  exact H dir h hh

/-- Semaphore `j + 2`, for the thirty semaphores of the transfers. -/
def num (j : Fin 30) : Fin 33 := ⟨j.val + 2, by omega⟩

theorem num_injective : Function.Injective num := by
  intro a b h; have := congrArg Fin.val h; simp only [num] at this; exact Fin.ext (by omega)

open Idealize.SL Idealize.SL.RA Idealize.SL.BI Idealize.SL.BI.BIBase in
/-- A family over the thirty semaphores, cut by what they count. -/
theorem bigSep_num {M : Type} [URA M] (Φ : Fin 33 → sProp M) :
    (bigSep Finset.univ fun j : Fin 30 => Φ (num j))
      = iprop((bigSep (Finset.Ico 0 (hops true)) fun h => Φ (sNum true h))
          ∗ (bigSep (Finset.Ico 0 (hops true)) fun h => Φ (rNum true h))
          ∗ (bigSep (Finset.Ico 0 (hops false)) fun h => Φ (sNum false h))
          ∗ bigSep (Finset.Ico 0 (hops false)) fun h => Φ (rNum false h)) := by
  have e (f : Fin 30 → Fin 33) (hf : f = num) : (bigSep Finset.univ fun j : Fin 30 => Φ (f j)) = bigSep (Finset.univ.image num) Φ := by
    subst hf; exact (bigSep_image_of_injOn (fun a _ b _ h => num_injective h) Φ).symm
  have i (f : ℕ → Fin 33) (n : ℕ) (hf : ∀ a < n, ∀ b < n, f a = f b → a = b) :
      (bigSep (Finset.Ico 0 n) fun h => Φ (f h)) = bigSep ((Finset.Ico 0 n).image f) Φ :=
    (bigSep_image_of_injOn (fun a ha b hb h =>
      hf a (Finset.mem_Ico.mp ha).2 b (Finset.mem_Ico.mp hb).2 h) Φ).symm
  rw [e num rfl, i (sNum true) (hops true) (by decide), i (rNum true) (hops true) (by decide),
    i (sNum false) (hops false) (by decide), i (rNum false) (hops false) (by decide),
    show (Finset.univ.image num : Finset (Fin 33)) = (Finset.Ico 0 (hops true)).image (sNum true)
      ∪ ((Finset.Ico 0 (hops true)).image (rNum true) ∪ ((Finset.Ico 0 (hops false)).image (sNum false)
        ∪ (Finset.Ico 0 (hops false)).image (rNum false))) by decide,
    bigSep_union (by decide), bigSep_union (by decide), bigSep_union (by decide)]
  rfl

end Cert.Ring
-- ==== Proof.Rows.lean ====
/- Arrays of 16384 rows as sixteen blocks of 1024 rows. -/
module

public import Idealize.ShloMosaic.Lib.Pipeline.Launch
public import Idealize.ShloMosaic.Lib.Layout

@[expose] public section

namespace Cert.Rows

open Idealize.ShloMosaic

variable {α : Type} {n : ℕ}

/-- The shape of one block of rows. -/
abbrev Blk (n : ℕ) : Shape := ⟨2, ![1024, n]⟩
/-- The shape of the whole array. -/
abbrev All (n : ℕ) : Shape := ⟨2, ![16384, n]⟩

/-- Where block `k` starts. -/
def rowOff (k : Fin 16) : Fin 2 → ℕ := ![1024 * k.val, 0]

theorem rowInb (n : ℕ) (k : Fin 16) : ∀ a, rowOff k a + (Blk n).size a ≤ (All n).size a := by
  intro a
  match a with
  | ⟨0, _⟩ => show 1024 * k.val + 1024 ≤ 16384; omega
  | ⟨1, _⟩ => show 0 + n ≤ n; omega

/-- The window of block `k`. -/
def rowRect (n : ℕ) (k : Fin 16) : Rect (All n) := Rect.unit (rowOff k) (Blk n).size (rowInb n k)

/-- The block an index lies in. -/
def blockOf (i : (All n).Idx) : Fin 16 :=
  ⟨(i 0).val / 1024, by have : (i 0).val < 16384 := (i 0).isLt; omega⟩

/-- The place of an index inside its block. -/
def within (i : (All n).Idx) : (Blk n).Idx :=
  fun a => match a with
    | ⟨0, _⟩ => ⟨(i 0).val % 1024, Nat.mod_lt _ (by decide)⟩
    | ⟨1, _⟩ => ⟨(i 1).val, (i 1).isLt⟩

/-- The whole array made of sixteen blocks. -/
def rowsOf (f : Fin 16 → (Blk n).Idx → α) : (All n).Idx → α := fun i => f (blockOf i) (within i)

theorem emb_zero (k : Fin 16) (y : (Blk n).Idx) : ((rowRect n k).emb y 0).val = 1024 * k.val + (y 0).val := by
  show 1024 * k.val + 1 * (y 0).val = _; omega

theorem emb_one (k : Fin 16) (y : (Blk n).Idx) : ((rowRect n k).emb y 1).val = (y 1).val := by
  show 0 + 1 * (y 1).val = _; omega

theorem blockOf_emb (k : Fin 16) (y : (Blk n).Idx) : blockOf ((rowRect n k).emb y) = k := by
  apply Fin.ext
  show ((rowRect n k).emb y 0).val / 1024 = k.val
  have h : (y 0).val < 1024 := (y 0).isLt
  rw [emb_zero]; omega

theorem within_emb (k : Fin 16) (y : (Blk n).Idx) : within ((rowRect n k).emb y) = y := by
  have h : (y 0).val < 1024 := (y 0).isLt
  refine funext fun a => ?_
  match a with
  | ⟨0, _⟩ =>
    apply Fin.ext
    show ((rowRect n k).emb y 0).val % 1024 = (y 0).val
    rw [emb_zero]; omega
  | ⟨1, _⟩ => apply Fin.ext; exact emb_one k y

/-- Reading block `k` of an array made of blocks gives block `k`. -/
theorem rowsOf_emb (f : Fin 16 → (Blk n).Idx → α) (k : Fin 16) (y : (Blk n).Idx) :
    rowsOf f ((rowRect n k).emb y) = f k y := by
  unfold rowsOf; rw [blockOf_emb, within_emb]

theorem mem_set (k : Fin 16) (i : (All n).Idx) : i ∈ (rowRect n k).set ↔ blockOf i = k := by
  have h0 : (i 0).val < 16384 := (i 0).isLt
  have h1 : (i 1).val < n := (i 1).isLt
  unfold rowRect
  rw [Rect.mem_set_unit]
  constructor
  · intro h
    have := h 0
    have e : 1024 * k.val ≤ (i 0).val ∧ (i 0).val < 1024 * k.val + 1024 := this
    apply Fin.ext
    show (i 0).val / 1024 = k.val
    omega
  · intro h a
    have e : (i 0).val / 1024 = k.val := congrArg Fin.val h
    match a with
    | ⟨0, _⟩ =>
      show 1024 * k.val ≤ (i 0).val ∧ (i 0).val < 1024 * k.val + 1024
      omega
    | ⟨1, _⟩ =>
      show 0 ≤ (i 1).val ∧ (i 1).val < 0 + n
      omega

/-- An index of block `k` is the place of some index of a block. -/
theorem exists_emb {k : Fin 16} {i : (All n).Idx} (h : i ∈ (rowRect n k).set) : ∃ y : (Blk n).Idx, (rowRect n k).emb y = i := by
  obtain ⟨y, hy⟩ := (rowRect n k).exists_idx_of_mem h
  exact ⟨y, hy⟩

/-- The blocks are disjoint, -/
theorem disjoint : ((Finset.univ : Finset (Fin 16)) : Set (Fin 16)).PairwiseDisjoint fun k => (rowRect n k).set := by
  intro j _ k _ hjk
  refine Finset.disjoint_left.mpr fun i hi hi' => hjk ?_
  rw [← (mem_set j i).mp hi, ← (mem_set k i).mp hi']

/-- and make up the whole array. -/
theorem biUnion : (Finset.univ : Finset (Fin 16)).biUnion (fun k => (rowRect n k).set) = Finset.univ := by
  ext i
  simp only [Finset.mem_biUnion, Finset.mem_univ, true_and, iff_true]
  exact ⟨blockOf i, (mem_set _ _).mpr rfl⟩

/-- Cutting an array into its sixteen blocks and laying them together again gives the array. -/
theorem rowsOf_block (v : (All n).Idx → α) (h : Layout.Tiles (Blk n) (All n) 0 16) :
    rowsOf (fun k => Layout.block (Blk n) (All n) 0 16 k v h) = v := by
  funext i
  have h0 : (i 0).val < 16384 := (i 0).isLt
  show v (h.idx (blockOf i) (within i)) = v i
  congr 1
  refine funext fun a => ?_
  match a with
  | ⟨0, _⟩ =>
    apply Fin.ext
    show (i 0).val / 1024 * 1024 + (i 0).val % 1024 = (i 0).val
    omega
  | ⟨1, _⟩ => rfl

end Cert.Rows
-- ==== Proof.KernelIdealProg.lean ====
/- The kernel's body written hop by hop: the same operations as the printed function, with the ring
   step a parameter instead of a literal.  `body_eq` says that the two are the same program. -/
module

public import proofs.«01_k».proof.Proof.Gen.KernelIdeal.Launch
public import proofs.«01_k».proof.Proof.Gen.KernelIdeal.Points
public import Idealize.ShloMosaic.Lib.Pipeline.Regions

@[expose] public section

noncomputable section

namespace Cert.KernelIdeal.Hand

open Idealize.ShloMosaic Idealize.SL.Sem
open Cert.KernelIdeal
open Facts₀ Facts

variable {F : FTy → Type} [FloatOps F]

/-- Programs of the kernel's body. -/
abbrev P (α : Type) := Prog (TpuEff nD τ sig (Elt F) Λ₀ .tc) α

/-- A one-semaphore window of an array of eight lies inside it. -/
theorem inb8 (h : Fin 8) : ∀ a, (![h.val] : Fin 1 → Nat) a + S1.size a ≤ S8.size a := by
  intro a; revert h a; decide

/-- A one-semaphore window of an array of seven lies inside it. -/
theorem inb7 (h : Fin 7) : ∀ a, (![h.val] : Fin 1 → Nat) a + S1.size a ≤ S7.size a := by
  intro a; revert h a; decide

/-- Semaphore `h` of an array of eight. -/
def sem8 (a : DmaSems sig S8) (h : Fin 8) : DmaSem sig :=
  ((a.slice (Rect.unit (s := S8) ![h.val] S1.size (inb8 h))).squeeze S_ squeezes_S1_S_).sem

/-- Semaphore `h` of an array of seven. -/
def sem7 (a : DmaSems sig S7) (h : Fin 7) : DmaSem sig :=
  ((a.slice (Rect.unit (s := S7) ![h.val] S1.size (inb7 h))).squeeze S_ squeezes_S1_S_).sem

/-- The barrier semaphore the neighbours signal. -/
abbrev barSem : Sem sig := (SemArray.scalar (sig.barrier 0 rfl) : Sems sig S_).sem

/-- The buffer holding all sixteen row blocks of the left operand. -/
abbrev gathM : Memref sig .tc .vmem S16384x512 .bf16 := Memref.whole cc0_scratch0
/-- The buffer one product block is rounded into before it is copied out. -/
abbrev prodM : Memref sig .tc .vmem S1024x1024 .bf16 := Memref.whole cc0_scratch1
/-- The result. -/
abbrev outM : Memref sig .tc .hbm S16384x1024 .bf16 := Memref.whole main_v1

/-- A block of 1024 rows of the gathered operand, as a window at the given offset. -/
abbrev gathRect (off : Fin 2 → Nat) (hi : ∀ a, off a + S1024x512.size a ≤ S16384x512.size a) :
    Rect S16384x512 := Rect.unit (s := S16384x512) off S1024x512.size hi
/-- A block of 1024 rows of the result, as a window at the given offset. -/
abbrev outRect (off : Fin 2 → Nat) (hi : ∀ a, off a + S1024x1024.size a ≤ S16384x1024.size a) :
    Rect S16384x1024 := Rect.unit (s := S16384x1024) off S1024x1024.size hi

/-- The block product: the left block times the right operand, accumulated in single precision from
    zero and rounded to half precision. -/
def blockProd (a : Vec F S1024x512 .bf16) (b : Vec F S512x1024 .bf16) : FVec F S1024x1024 .bf16 :=
  shapeCast S1024x1024
    (truncf .bf16
      (matmul dot_S1024x512_S512x1024_S1024x1024_1_0_0_1_n_n none a
        (shapeCast S512x1024 b shapeCasts_S512x1024_S512x1024)
        (constant S1024x1024 .f32 0x00000000#32)) bitsLt_bf16_f32)
    shapeCasts_S1024x1024_S1024x1024

/-- Send the block at offset `off` to device `n`. -/
def sendP (n : Dev nD) (off : Fin 2 → Nat) (hi : ∀ a, off a + S1024x512.size a ≤ S16384x512.size a)
    (hw : (gathRect off hi).WholeWords (EltTy.packing .bf16)) (s r : DmaSem sig) : P (F := F) PUnit :=
  Prog.lift (.enqueueDma (gathM.slice (gathRect off hi) (fun _ => rfl))
    (.remote (Dev.tc n) (gathM.slice (gathRect off hi) (fun _ => rfl)) (.dma s)) (.dma r)
    ((Memref.isWhole_whole _).wordExact_slice rfl _ hw) ((Memref.isWhole_whole _).wordExact_slice rfl _ hw)
    ⟨⟨rfl, Or.inl rfl⟩, trivial⟩)

/-- Wait on semaphore `s` for a block at offset `off`. -/
def waitP (off : Fin 2 → Nat) (hi : ∀ a, off a + S1024x512.size a ≤ S16384x512.size a)
    (hw : (gathRect off hi).WholeWords (EltTy.packing .bf16)) (s : DmaSem sig) : P (F := F) PUnit :=
  Prog.lift (.waitDma2 s (gathM.slice (gathRect off hi) (fun _ => rfl)) (gathM.slice (gathRect off hi) (fun _ => rfl))
    ((Memref.isWhole_whole _).wordExact_slice rfl _ hw) ((Memref.isWhole_whole _).wordExact_slice rfl _ hw))

/-- Multiply the gathered block at `off` by the right operand and copy the product to the rows of the
    result at `off'`. -/
def compP (B : Memref sig .tc .vmem S512x1024 .bf16) (off : Fin 2 → Nat)
    (hi : ∀ a, off a + S1024x512.size a ≤ S16384x512.size a) (off' : Fin 2 → Nat)
    (hi' : ∀ a, off' a + S1024x1024.size a ≤ S16384x1024.size a)
    (hw' : (outRect off' hi').WholeWords (EltTy.packing .bf16)) : P (F := F) PUnit := do
  let a : Vec F S1024x512 .bf16 ← Prog.lift (.load gathM (gathRect off hi).toLoadRect (View.loadsAt_vmem h_S1024x512))
  let b : Vec F S512x1024 .bf16 ← Prog.lift (.load B (Rect.unit (s := S512x1024) ![0, 0] S512x1024.size inb_S512x1024_S512x1024_0_0).toLoadRect (View.loadsAt_vmem h_S512x1024))
  let _ ← Prog.lift (.load prodM (Rect.unit (s := S1024x1024) ![0, 0] S1024x1024.size inb_S1024x1024_S1024x1024_0_0).toLoadRect (View.loadsAt_vmem h_S1024x1024))
  Prog.lift (.store prodM (Rect.unit (s := S1024x1024) ![0, 0] S1024x1024.size inb_S1024x1024_S1024x1024_0_0) (blockProd a b) Finset.univ (View.stores_vmem h_S1024x1024 ((Memref.isWhole_whole _).storeExact_slice rfl _ packedbf16_S1024x1024_S1024x1024_0_0) (fun _ => rfl)) (.inl rfl))
  Prog.lift (.enqueueDma prodM (.here (outM.slice (outRect off' hi') (fun _ => rfl))) (.dma cc0_scratch6.sem) (Memref.isWhole_whole _).wordExact ((Memref.isWhole_whole _).wordExact_slice rfl _ hw') ⟨Or.inl rfl, trivial⟩)
  Prog.lift (.waitDma2 cc0_scratch6.sem prodM (outM.slice (outRect off' hi') (fun _ => rfl)) (Memref.isWhole_whole _).wordExact ((Memref.isWhole_whole _).wordExact_slice rfl _ hw'))

/-- The device a clockwise send of hop `h` goes to. -/
def devR (d : Dev nD) : Fin 8 → Dev nD :=
  ![⟨k0_dev3 d, k0_dev3_lt d⟩, ⟨k0_dev5 d, k0_dev5_lt d⟩, ⟨k0_dev7 d, k0_dev7_lt d⟩, ⟨k0_dev9 d, k0_dev9_lt d⟩,
    ⟨k0_dev11 d, k0_dev11_lt d⟩, ⟨k0_dev13 d, k0_dev13_lt d⟩, ⟨k0_dev15 d, k0_dev15_lt d⟩, ⟨k0_dev17 d, k0_dev17_lt d⟩]

/-- The device a counter-clockwise send of hop `h` goes to. -/
def devL (d : Dev nD) : Fin 7 → Dev nD :=
  ![⟨k0_dev4 d, k0_dev4_lt d⟩, ⟨k0_dev6 d, k0_dev6_lt d⟩, ⟨k0_dev8 d, k0_dev8_lt d⟩, ⟨k0_dev10 d, k0_dev10_lt d⟩,
    ⟨k0_dev12 d, k0_dev12_lt d⟩, ⟨k0_dev14 d, k0_dev14_lt d⟩, ⟨k0_dev16 d, k0_dev16_lt d⟩]

/-- The clockwise send of hop `h`. -/
def sendR (d : Dev nD) (h : Fin 8) : P (F := F) PUnit :=
  sendP (devR d h) (k0_off2 d (BitVec.ofNat 32 h.val)) (k0_off2_inb d h) (k0_off2_wordsbf16 d h)
    (sem8 cc0_scratch2 h) (sem8 cc0_scratch3 h)

/-- The counter-clockwise send of hop `h`. -/
def sendL (d : Dev nD) (h : Fin 7) : P (F := F) PUnit :=
  sendP (devL d h) (k0_off3 d (BitVec.ofNat 32 h.val)) (k0_off3_inb d h) (k0_off3_wordsbf16 d h)
    (sem7 cc0_scratch4 h) (sem7 cc0_scratch5 h)

/-- The clockwise waits of hop `h`: for the block sent, then for the block received. -/
def waitR (d : Dev nD) (h : Fin 8) : P (F := F) PUnit := do
  waitP (k0_off2 d (BitVec.ofNat 32 h.val)) (k0_off2_inb d h) (k0_off2_wordsbf16 d h) (sem8 cc0_scratch2 h)
  waitP (k0_off5 d (BitVec.ofNat 32 h.val)) (k0_off5_inb d h) (k0_off5_wordsbf16 d h) (sem8 cc0_scratch3 h)

/-- The counter-clockwise waits of hop `h`. -/
def waitL (d : Dev nD) (h : Fin 7) : P (F := F) PUnit := do
  waitP (k0_off3 d (BitVec.ofNat 32 h.val)) (k0_off3_inb d h) (k0_off3_wordsbf16 d h) (sem7 cc0_scratch4 h)
  waitP (k0_off6 d (BitVec.ofNat 32 h.val)) (k0_off6_inb d h) (k0_off6_wordsbf16 d h) (sem7 cc0_scratch5 h)

/-- The product of the block received clockwise at hop `r`. -/
def compR (B : Memref sig .tc .vmem S512x1024 .bf16) (d : Dev nD) (r : Fin 8) : P (F := F) PUnit :=
  compP B (k0_off7 d (BitVec.ofNat 32 (1 + r.val))) (k0_off7_inb d r) (k0_off8 d (BitVec.ofNat 32 (1 + r.val)))
    (k0_off8_inb d r) (k0_off8_wordsbf16 d r)

/-- The product of the block received counter-clockwise at hop `r`. -/
def compL (B : Memref sig .tc .vmem S512x1024 .bf16) (d : Dev nD) (r : Fin 7) : P (F := F) PUnit :=
  compP B (k0_off9 d (BitVec.ofNat 32 (1 + r.val))) (k0_off9_inb d r) (k0_off10 d (BitVec.ofNat 32 (1 + r.val)))
    (k0_off10_inb d r) (k0_off10_wordsbf16 d r)

/-- The device's own block laid into its rows of the gathered operand. -/
def ownP (A : Memref sig .tc .vmem S1024x512 .bf16) (off : Fin 2 → Nat)
    (hi : ∀ a, off a + S1024x512.size a ≤ S16384x512.size a)
    (hp : (gathRect off hi).PackedRows (EltTy.packing .bf16)) : P (F := F) PUnit := do
  let a : Vec F S1024x512 .bf16 ← Prog.lift (.load A (Rect.unit (s := S1024x512) ![0, 0] S1024x512.size inb_S1024x512_S1024x512_0_0).toLoadRect (View.loadsAt_vmem h_S1024x512))
  let _ ← Prog.lift (.load gathM (gathRect off hi).toLoadRect (View.loadsAt_vmem h_S1024x512))
  Prog.lift (.store gathM (gathRect off hi) (shapeCast S1024x512 (shapeCast S1024x512 a shapeCasts_S1024x512_S1024x512) shapeCasts_S1024x512_S1024x512) Finset.univ (View.stores_vmem h_S1024x512 ((Memref.isWhole_whole _).storeExact_slice rfl _ hp) (fun _ => rfl)) (.inl rfl))

/-- The two signals to the neighbours, the wait for theirs, and the device's own block put in place. -/
def startP (A : Memref sig .tc .vmem S1024x512 .bf16) (d : Dev nD) : P (F := F) PUnit := do
  semSignalWord (⟨k0_dev1 d, k0_dev1_lt d⟩ : Dev nD) barSem 1#32
  semSignalWord (⟨k0_dev2 d, k0_dev2_lt d⟩ : Dev nD) barSem 1#32
  semWaitWord barSem 2#32
  ownP A (k0_off1 d) (k0_off1_inb d) (k0_off1_packedbf16 d)

/-- Hop 0: both sends, the product of the device's own block, the waits. -/
def hop0 (B : Memref sig .tc .vmem S512x1024 .bf16) (d : Dev nD) : P (F := F) PUnit := do
  sendR d 0
  sendL d 0
  compP B (k0_off1 d) (k0_off1_inb d) (k0_off4 d) (k0_off4_inb d) (k0_off4_wordsbf16 d)
  waitR d 0
  waitL d 0

/-- Hop `h + 1`, for the six hops in the middle: both sends, the products of the two blocks received
    at hop `h`, the waits. -/
def hopS (B : Memref sig .tc .vmem S512x1024 .bf16) (d : Dev nD) (h : Fin 6) : P (F := F) PUnit := do
  sendR d ⟨h.val + 1, by omega⟩
  sendL d ⟨h.val + 1, by omega⟩
  compR B d ⟨h.val, by omega⟩
  compL B d ⟨h.val, by omega⟩
  waitR d ⟨h.val + 1, by omega⟩
  waitL d ⟨h.val + 1, by omega⟩

/-- Hop 7: the clockwise send alone, the two products, the clockwise waits; then the last product. -/
def hop7 (B : Memref sig .tc .vmem S512x1024 .bf16) (d : Dev nD) : P (F := F) PUnit := do
  sendR d 7
  compR B d 6
  compL B d 6
  waitR d 7
  compR B d 7

/-- The whole body, hop by hop. -/
def tidy (A : Memref sig .tc .vmem S1024x512 .bf16) (B : Memref sig .tc .vmem S512x1024 .bf16) : P (F := F) PUnit := do
  let d : Dev nD ← Prog.lift .deviceId
  startP A d
  hop0 B d
  hopS B d 0
  hopS B d 1
  hopS B d 2
  hopS B d 3
  hopS B d 4
  hopS B d 5
  hop7 B d

set_option maxRecDepth 65536 in
/-- The printed body is the tidy one. -/
theorem body_eq (A : Memref sig .tc .vmem S1024x512 .bf16) (hA : A.IsWhole) (B : Memref sig .tc .vmem S512x1024 .bf16)
    (hB : B.IsWhole) :
    cc0_body (F := F) A hA B hB (Memref.whole main_v1) (Memref.isWhole_whole _) (Memref.whole cc0_scratch0)
      (Memref.isWhole_whole _) (Memref.whole cc0_scratch1) (Memref.isWhole_whole _)
      cc0_scratch2 cc0_scratch3 cc0_scratch4 cc0_scratch5 cc0_scratch6 = tidy A B := by
  chain_rfl

end Cert.KernelIdeal.Hand

end
-- ==== Proof.KernelIdealSched.lean ====
/- The protocol of the transfers: which semaphore counts what, what each unit hands over, what a device
   owes and in which order it may wait. -/
module

public import proofs.«01_k».proof.Proof.KernelIdealProg
public import proofs.«01_k».proof.Proof.Ring
public import proofs.«01_k».proof.Proof.Rows
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.Ring Cert.Rows

variable {F : FTy → Type} [FloatOps F]

/-- The rounds' ghost state of the transfers. -/
abbrev UB : Type := URounds (GSem nD τ sig) Bool
/-- The ghost state: the staging pipeline's, the transfers', the local copies' counters. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ)

/-! ## Contents -/

/-- Device `k`'s block of the left operand. -/
abbrev aBlk (k : Dev nD) : Vec F S1024x512 .bf16 := m ((k : Thread nD τ).loc main_arg0)
/-- Device `c`'s copy of the right operand. -/
abbrev bMat (c : Dev nD) : Vec F S512x1024 .bf16 := m ((c : Thread nD τ).loc main_arg1)

/-- The left operand gathered from all devices. -/
def agFull : (cc0_scratch0 : Ref sig .tc).ty.Contents (Elt F) :=
  (rowsOf (n := 512) fun k => aBlk m k : (All 512).Idx → Elt F .bf16)

/-- The whole result on device `c`. -/
def outFull (c : Dev nD) : (main_v1 : Ref sig .tc).ty.Contents (Elt F) :=
  (rowsOf (n := 1024) fun k => blockProd (aBlk m k) (bMat m c) : (All 1024).Idx → Elt F .bf16)

/-- Block `k` of device `c`'s gathered operand, at a share and contents. -/
def blkPts (c k : Dev nD) (q : PosShare TreeShare) (f : (cc0_scratch0 : Ref sig .tc).ty.Contents (Elt F)) : sProp 𝕄 :=
  ((c : Thread nD τ).loc cc0_scratch0) ↦[(rowRect 512 k).set]{q} f

omit [FloatOps F] in
instance blkPts_storable (c k : Dev nD) (q) (f) : BI.Storable (upEmb : UEmb _ 𝕄) (blkPts (F := F) c k q f) := by
  unfold blkPts; infer_instance

/-- The share a transfer in a direction reads a block at; -/
def shr (dir : Bool) : PosShare TreeShare := if dir then fullShare.left else fullShare.right.left
/-- the share the product reads it at. -/
def shrL : PosShare TreeShare := fullShare.right.right

omit [FloatOps F] in
/-- A block held whole is held at the two transfers' shares and the product's. -/
theorem blk_split (dir : Bool) (c k : Dev nD) (f) :
    (blkPts (F := F) c k fullShare f) ⊣⊢ iprop(blkPts c k (shr dir) f ∗ blkPts c k (shr !dir) f ∗ blkPts c k shrL f) := by
  have h : (blkPts (F := F) c k fullShare f) ⊣⊢ iprop(blkPts c k (shr true) f ∗ blkPts c k (shr false) f ∗ blkPts c k shrL f) := by
    unfold blkPts shr shrL
    refine ⟨?_, ?_⟩
    · iintro H
      ihave H := (pointsTo_share (PosShare.mem_left_op_right fullShare)).1 $$ H
      icases H with ⟨H1, H2⟩
      ihave H := (pointsTo_share (PosShare.mem_left_op_right fullShare.right)).1 $$ H2
      icases H with ⟨H2, H3⟩
      isplitl [H1]; · iexact H1
      isplitl [H2]; · iexact H2
      iexact H3
    · iintro ⟨H1, H2, H3⟩
      iapply (pointsTo_share (PosShare.mem_left_op_right fullShare)).2
      isplitl [H1]; · iexact H1
      iapply (pointsTo_share (PosShare.mem_left_op_right fullShare.right)).2
      isplitl [H2]; · iexact H2
      iexact H3
  cases dir
  · refine h.trans ⟨?_, ?_⟩ <;>
    · iintro ⟨H1, H2, H3⟩
      isplitl [H2]; · iexact H2
      isplitl [H1]; · iexact H1
      iexact H3
  · exact h

/-! ## The cells -/

abbrev barCell (c : Dev nD) : GSem nD τ sig := ((c : Thread nD τ), .reg barSem)
abbrev dmaCell (c : Dev nD) (s : DmaSem sig) : GSem nD τ sig := ((c : Thread nD τ), .dma s)
/-- The cell counting the block device `c` sends at hop `h`, -/
abbrev sCell (dir : Bool) (h : ℕ) (c : Dev nD) : GSem nD τ sig := dmaCell c (sNum dir h)
/-- and the block it receives. -/
abbrev rCell (dir : Bool) (h : ℕ) (c : Dev nD) : GSem nD τ sig := dmaCell c (rNum dir h)

/-- What one block's transfer counts. -/
def N : ℕ := (cc0_scratch0 : Ref sig .tc).dmaCredit S1024x512 .bf16

theorem credit_eq (off : Fin 2 → ℕ) (hi) : (gathM.slice (gathRect off hi) (fun _ => rfl)).view.dmaCredit = N :=
  (View.dmaCredit_ref _).symm.trans (congrArg (fun b : Ref sig .tc => b.dmaCredit S1024x512 .bf16)
    (show (gathM.slice (gathRect off hi) (fun _ => rfl)).view.ref = cc0_scratch0 from rfl))

theorem N_pos : 0 < N := by
  rw [← credit_eq (rowOff 0) (rowInb 512 0)]; exact View.dmaCredit_pos _ (by decide)

/-! ## The schedule -/

/-- What a neighbour's signal hands device `c`: the places in that neighbour's gathered operand that `c`
    will write. -/
def barPay (dir : Bool) (c : Dev nD) : sProp 𝕄 :=
  bigSep (Finset.Ico 0 (hops dir)) fun j => iprop(∃ f, blkPts (nb dir c) (chunk dir j c) fullShare f)

/-- What a transfer semaphore's units hand over: the block received; or the share of the block sent. -/
def dmaPay (x : Option (Bool × Bool × ℕ)) (c : Dev nD) : sProp 𝕄 :=
  match x with
  | some (true, dir, h) => blkPts c (chunk dir (h + 1) c) fullShare (agFull m)
  | some (false, dir, h) => blkPts c (chunk dir h c) (shr dir) (agFull m)
  | none => iprop(emp)

/-- The duties of a cell: the two signals of a barrier, the one transfer of a semaphore. -/
def dutiesOf : SemLoc sig → Finset Bool
  | .reg _ => Finset.univ
  | .dma s => if (role s).isSome then {false} else ∅

/-- What a cell hands over for a duty. -/
def payOf (c : Dev nD) (d : Bool) : SemLoc sig → sProp 𝕄
  | .reg _ => barPay d c
  | .dma s => dmaPay m (role s) c

/-- What a duty counts. -/
def amountOf : SemLoc sig → ℕ
  | .reg _ => 1
  | .dma _ => N

/-- One round on every cell. -/
def ringRd : Rounds.Schedule (GSem nD τ sig) Bool 𝕄 where
  duties g r := if r = 0 ∧ g.1.2 = .tc then dutiesOf g.2 else ∅
  unitless _ := False
  amount g _ _ := amountOf g.2
  payload g _ d := payOf m g.1.1 d g.2
  amount_pos g _ _ _ := by
    rcases g with ⟨t, s | s⟩
    · exact Nat.one_pos
    · exact N_pos

instance dmaPay_storable (x) (c : Dev nD) : BI.Storable (upEmb : UEmb _ 𝕄) (dmaPay (F := F) m x c) := by
  unfold dmaPay; split <;> infer_instance

instance barPay_storable (dir) (c : Dev nD) : BI.Storable (upEmb : UEmb _ 𝕄) (barPay (F := F) dir c) := by
  unfold barPay; infer_instance

instance ringRd_payload_storable (g : GSem nD τ sig) (r : ℕ) (d : Bool) :
    BI.Storable (upEmb : UEmb _ 𝕄) ((ringRd (F := F) m).payload g r d) := by
  rcases g with ⟨t, s | s⟩
  · exact barPay_storable d t.1
  · exact dmaPay_storable m (role s) t.1

omit [FloatOps F] in
theorem duties_bar (c : Dev nD) : (ringRd (F := F) m).duties (barCell c) 0 = Finset.univ := by
  dsimp only [ringRd]; exact if_pos ⟨rfl, rfl⟩
omit [FloatOps F] in
theorem duties_dma (c : Dev nD) {s : DmaSem sig} {x} (hs : role s = some x) :
    (ringRd (F := F) m).duties (dmaCell c s) 0 = {false} := by
  dsimp only [ringRd]
  rw [if_pos ⟨rfl, rfl⟩]
  dsimp only [dutiesOf]
  rw [hs]; rfl
omit [FloatOps F] in
theorem duties_later (g : GSem nD τ sig) : ∀ r, 1 ≤ r → (ringRd (F := F) m).duties g r = ∅ :=
  fun r hr => by dsimp only [ringRd]; exact if_neg fun h => by omega

omit [FloatOps F] in
theorem expect_bar (c : Dev nD) : (ringRd (F := F) m).expect (barCell c) 0 = 2 := by
  unfold Schedule.expect Schedule.amountOf
  rw [duties_bar]; rfl
omit [FloatOps F] in
theorem expect_dma (c : Dev nD) {s : DmaSem sig} {x} (hs : role s = some x) :
    (ringRd (F := F) m).expect (dmaCell c s) 0 = N := by
  unfold Schedule.expect Schedule.amountOf
  rw [duties_dma m c hs, Finset.sum_singleton]; rfl

omit [FloatOps F] in
/-- The two signals' worth of a barrier cell. -/
theorem rest_bar (c : Dev nD) :
    bigSep ((ringRd (F := F) m).duties (barCell c) 0 \ ∅) (fun d => (ringRd (F := F) m).payload (barCell c) 0 d)
      = iprop(barPay true c ∗ barPay false c) := by
  rw [Finset.sdiff_empty, duties_bar, bigSep_univ_eq_bigSepL [true, false] (by decide) (by decide), bigSepL_cons_cons, bigSepL_singleton]
  rfl
omit [FloatOps F] in
/-- A transfer semaphore's. -/
theorem rest_dma (c : Dev nD) {s : DmaSem sig} {x} (hs : role s = some x) :
    bigSep ((ringRd (F := F) m).duties (dmaCell c s) 0 \ ∅) (fun d => (ringRd (F := F) m).payload (dmaCell c s) 0 d)
      = dmaPay m (some x) c := by
  rw [Finset.sdiff_empty, duties_dma m c hs, bigSep_singleton, ← hs]
  rfl

/-! ## What a device owes, and the order of waits -/

/-- What device `c` owes in a direction from hop `a` on: a block to the neighbour's receive cell per hop. -/
def Owe (dir : Bool) (a : ℕ) (c : Dev nD) : CellTallies nD τ sig Unit :=
  ∑ j ∈ Finset.Ico a (hops dir), tallyAt (rCell dir j (nb dir c)) () N

/-- What it owes after `a` clockwise and `b` counter-clockwise sends. -/
def Oat (a b : ℕ) (c : Dev nD) : CellTallies nD τ sig Unit := Owe true a c + Owe false b c

/-- Before its second signal, -/
def O₁ (c : Dev nD) : CellTallies nD τ sig Unit := Oat 0 0 c + tallyAt (barCell (nb true c)) () 1
/-- and before its first. -/
def O₀ (c : Dev nD) : CellTallies nD τ sig Unit := O₁ c + tallyAt (barCell (nb false c)) () 1

theorem owe_succ {dir : Bool} {a : ℕ} (h : a < hops dir) (c : Dev nD) :
    Owe dir a c = Owe dir (a + 1) c + tallyAt (rCell dir a (nb dir c)) () N := by
  unfold Owe
  have e : Finset.Ico a (hops dir) = insert a (Finset.Ico (a + 1) (hops dir)) := by
    ext j; simp only [Finset.mem_insert, Finset.mem_Ico]; omega
  rw [e, Finset.sum_insert (fun hm => Nat.lt_irrefl _ (Nat.lt_of_succ_le (Finset.mem_Ico.mp hm).1)), add_comm]

theorem oat_cw {a : ℕ} (b : ℕ) (h : a < 8) (c : Dev nD) :
    Oat a b c = Oat (a + 1) b c + tallyAt (rCell true a (nb true c)) () N := by
  unfold Oat; rw [owe_succ (dir := true) h, add_right_comm]

theorem oat_ccw (a : ℕ) {b : ℕ} (h : b < 7) (c : Dev nD) :
    Oat a b c = Oat a (b + 1) c + tallyAt (rCell false b (nb false c)) () N := by
  unfold Oat; rw [owe_succ (dir := false) h, add_assoc]

theorem oat_done (c : Dev nD) : Oat 8 7 c = 0 := by
  unfold Oat Owe
  rw [Finset.Ico_eq_empty (by decide), Finset.Ico_eq_empty (by decide), Finset.sum_empty, Finset.sum_empty, add_zero]

/-- What is owed from a hop on is owed to a receive cell of that hop or a later one. -/
theorem owe_pos {dir : Bool} {a : ℕ} {c : Dev nD} {g : GSem nD τ sig} {u : Unit} (h : 0 < Owe dir a c g u) :
    ∃ j, a ≤ j ∧ j < hops dir ∧ g = rCell dir j (nb dir c) := by
  unfold Owe at h
  rw [Finset.sum_apply, Finsupp.finset_sum_apply] at h
  obtain ⟨j, hj, hp⟩ := Finset.exists_ne_zero_of_sum_ne_zero (Nat.pos_iff_ne_zero.mp h)
  refine ⟨j, (Finset.mem_Ico.mp hj).1, (Finset.mem_Ico.mp hj).2, ?_⟩
  rw [tallyAt_apply] at hp
  by_contra hn
  exact hp (if_neg fun h' => hn h'.1)

theorem oat_pos {a b : ℕ} {c : Dev nD} {g : GSem nD τ sig} {u : Unit} (h : 0 < Oat a b c g u) :
    ∃ dir j, (if dir then a else b) ≤ j ∧ j < hops dir ∧ g = rCell dir j (nb dir c) := by
  unfold Oat at h
  rw [Pi.add_apply, Finsupp.add_apply] at h
  rcases Nat.add_pos_iff_pos_or_pos.mp h with h | h
  · exact ⟨true, owe_pos h⟩
  · exact ⟨false, owe_pos h⟩

theorem O₀_pos {c : Dev nD} {g : GSem nD τ sig} {u : Unit} (h : 0 < O₀ c g u) :
    (∃ dir j, j < hops dir ∧ g = rCell dir j (nb dir c)) ∨ ∃ d, g = barCell d := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨dir, j, _, hj, e⟩ := oat_pos h
      exact .inl ⟨dir, j, hj, e⟩
    · refine .inr ⟨nb true c, ?_⟩
      rw [tallyAt_apply] at h
      by_contra hn
      rw [if_neg fun h' => hn h'.1] at h; exact Nat.lt_irrefl 0 h
  · refine .inr ⟨nb false c, ?_⟩
    rw [tallyAt_apply] at h
    by_contra hn
    rw [if_neg fun h' => hn h'.1] at h; exact Nat.lt_irrefl 0 h

def L (g : GSem nD τ sig) : Finset Unit := if g.1.2 = .tc then {()} else ∅

/-- The level of a semaphore: a barrier at 1, the block received at hop `h` at `h + 2`, all else at 0. -/
def lvOf : SemLoc sig → ℕ
  | .reg _ => 1
  | .dma s => match role s with
    | some (true, _, h) => h + 2
    | _ => 0

def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv {dir : Bool} {h : ℕ} (hh : h < hops dir) : lvOf (.dma (rNum dir h)) = h + 2 := by
  dsimp only [lvOf]; rw [role_rNum hh]
theorem lv_send {dir : Bool} {h : ℕ} (hh : h < hops dir) : lvOf (.dma (sNum dir h)) = 0 := by
  dsimp only [lvOf]; rw [role_sNum hh]

omit [FloatOps F] in
/-- A device may wait on a semaphore below every receive it still owes. -/
theorem mayWait (c : Dev nD) (sm : SemLoc sig) (a b : ℕ)
    (h : ∀ (dir : Bool) (j : ℕ), (if dir then a else b) ≤ j → j < hops dir → lvOf sm < j + 2) :
    (levAts L lv : sProp 𝕄) ⊢ MayWait (c : Thread nD τ) sm () (Oat a b c) :=
  MayOwe.of_cut (L := L) (lev := lv) (lvOf sm) (fun p hp => by rw [Finset.mem_singleton.mp hp, L_tc]; exact Finset.mem_singleton_self _)
    (fun g u hg => by
      obtain ⟨dir, j, hj, hj', rfl⟩ := oat_pos hg
      rw [L_tc]; exact Finset.mem_singleton_self _)
    (fun p hp => by rw [Finset.mem_singleton.mp hp]; exact Nat.le_refl _)
    (fun g u hg => by
      obtain ⟨dir, j, hj, hj', rfl⟩ := oat_pos hg
      show lvOf sm < lvOf (.dma (rNum dir j))
      rw [lv_recv hj']; exact h dir j hj hj')

omit [FloatOps F] in
/-- A wait on a semaphore at level 0 is allowed at launch, and when nothing is owed. -/
theorem mayWait_stage (c : Dev nD) (sm : SemLoc sig) (hq : lvOf sm = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨dir, j, hj, rfl⟩ | ⟨d, rfl⟩ <;> (rw [L_tc]; exact Finset.mem_singleton_self _))
      (fun p hp => by rw [Finset.mem_singleton.mp hp]; exact Nat.le_of_eq hq)
      (fun g u hg => by
        rcases O₀_pos hg with ⟨dir, j, hj, rfl⟩ | ⟨d, rfl⟩
        · show 0 < lvOf (.dma (rNum dir j)); rw [lv_recv hj]; omega
        · exact Nat.one_pos)
  · rw [MayWait_zero]; iintro -; iempintro

/-! ## What every device knows -/

/-- A cell follows the schedule, and its first round has begun. -/
def known (g : GSem nD τ sig) : sProp 𝕄 := iprop(∃ κ : ℕ, cellInv ER (ringRd m) κ g ∗ reached ER g 0)

instance known_persistent (g : GSem nD τ sig) : BI.Persistent (known (F := F) m g) := by unfold known; infer_instance

/-- Every barrier cell and every transfer cell is known, and the levels are. -/
def recs : sProp 𝕄 :=
  iprop((bigSep Finset.univ fun c : Dev nD => known m (barCell c))
    ∗ (bigSep Finset.univ fun cj : Dev nD × Fin 30 => known m (dmaCell cj.1 (num cj.2))) ∗ levAts L lv)

instance recs_persistent : BI.Persistent (recs (F := F) m) := by unfold recs; infer_instance

omit [FloatOps F] in
theorem recs_bar (c : Dev nD) : recs (F := F) m ⊢ known m (barCell c) := by
  unfold recs
  iintro ⟨H, -, -⟩
  have h : (bigSep Finset.univ fun c : Dev nD => known (F := F) m (barCell c)) ⊢ known m (barCell c) := bigSep_elim (Finset.mem_univ c)
  iapply h; iexact H

omit [FloatOps F] in
theorem recs_dma (c : Dev nD) {s : DmaSem sig} {x} (hs : role s = some x) : recs (F := F) m ⊢ known m (dmaCell c s) := by
  obtain ⟨j, rfl⟩ : ∃ j, num j = s := by
    have H : ∀ s : Fin 33, (role s).isSome = true → ∃ j, num j = s := by decide
    exact H s (by rw [hs]; rfl)
  unfold recs
  iintro ⟨-, H, -⟩
  have h : (bigSep Finset.univ fun cj : Dev nD × Fin 30 => known (F := F) m (dmaCell cj.1 (num cj.2))) ⊢ known m (dmaCell c (num j)) :=
    bigSep_elim (Finset.mem_univ (c, j))
  iapply h; iexact H

omit [FloatOps F] in
theorem recs_lev : recs (F := F) m ⊢ levAts L lv := by
  unfold recs
  iintro ⟨-, -, H⟩
  iexact H

end Cert.KernelIdeal.Hand

end
-- ==== Proof.KernelIdealRules.lean ====
/- What each piece of the body does: a send, a wait, a block product with its copy to the result. -/
module

public import proofs.«01_k».proof.Proof.KernelIdealSched

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.Ring Cert.Rows
open Facts₀ Facts

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a piece of the body on device `c`. -/
abbrev WP (c : Dev nD) {α : Type} (p : P (F := F) α) (Q : α → sProp 𝕄) : sProp 𝕄 :=
  wp frame (wpE (defs₀ (F := F)) 𝒱₀ (c : Thread nD τ) none) Set.univ p Q

/-! ## Contents of blocks -/

omit [FloatOps F] in
theorem slice_set (k : Dev nD) (hi) :
    (gathM.slice (gathRect (rowOff k) hi) (fun _ => rfl)).view.set = (rowRect 512 k).set := View.set_slice_whole _ _

omit [FloatOps F] in
/-- A block landed holds what the sender's block held. -/
theorem landed (k : Dev nD) (hi) (fd fs : (cc0_scratch0 : Ref sig .tc).ty.Contents (Elt F)) :
    ∀ i ∈ (rowRect 512 k).set,
      (gathM.slice (gathRect (rowOff k) hi) (fun _ => rfl)).view.write (Elt F) fd
        ((gathM.slice (gathRect (rowOff k) hi) (fun _ => rfl)).view.read (Elt F) fs) Finset.univ i = fs i := by
  intro i hi'
  rw [View.write_read_eq_piecewise]
  exact Finset.piecewise_eq_of_mem _ _ _ (by rw [View.setOn_univ, slice_set]; exact hi')

omit [FloatOps F] in
/-- Loading block `k` of the gathered operand gives device `k`'s block. -/
theorem read_blk (k : Dev nD) (hi) :
    gathM.view.readAt (Elt F) (gathRect (rowOff k) hi).toLoadRect (agFull m) = aBlk m k := by
  funext y
  exact rowsOf_emb (n := 512) (fun k => aBlk m k) k y

/-! ## Sends -/

/-- What a send needs besides the block: the place it lands in and the two duties it discharges. -/
def sndItem (dir : Bool) (j : ℕ) (c : Dev nD) : sProp 𝕄 :=
  iprop((∃ f, blkPts (nb dir c) (chunk dir j c) fullShare f) ∗ dutyTok ER (sCell dir j c) 0 false
    ∗ dutyTok ER (rCell dir j (nb dir c)) 0 false)

/-- What device `c` owes, having waited on some semaphores. -/
def debt (c : Dev nD) (O : CellTallies nD τ sig Unit) : sProp 𝕄 := iprop(∃ W, owes (c : Thread nD τ) O W)

/-- A send passes a share of the block on and discharges the receiver's block owed. -/
theorem wp_send {dir : Bool} {h : ℕ} (hh : h < hops dir) (c n : Dev nD) (hn : n = nb dir c) {off : Fin 2 → ℕ}
    (ho : off = rowOff (chunk dir h c)) (hi) (hw) {s r : DmaSem sig} (hs : s = sNum dir h) (hr : r = rNum dir h)
    (O : CellTallies nD τ sig Unit) (Kt : PUnit → sProp 𝕄) :
    iprop(recs m ∗ blkPts c (chunk dir h c) (shr dir) (agFull m) ∗ sndItem dir h c
        ∗ debt c (O + tallyAt (rCell dir h (nb dir c)) () N))
      ⊢ iprop(((cred (tallyAt (sCell dir h c) () N) ∗ debt c O) -∗ Kt ⟨⟩) -∗ WP c (sendP n off hi hw s r) Kt) := by
  subst hn ho hs hr
  unfold sndItem debt
  iintro ⟨#HR, Hb, ⟨⟨%fd, Hd⟩, Ht₁, Ht₂⟩, ⟨%W, HO⟩⟩ Hk
  ihave HS := (recs_dma m c (role_sNum hh)) $$ HR
  ihave HV := (recs_dma m (nb dir c) (role_rNum hh)) $$ HR
  unfold known
  icases HS with ⟨%κ₁, #HI₁, #Hr₁⟩
  icases HV with ⟨%κ₂, #HI₂, #Hr₂⟩
  unfold sendP Prog.lift
  iapply (Rounds.wp_send_pointsTo 𝒱₀ ER (ringRd m) (c : Thread nD τ) none (κ₁ := κ₁) (κ₂ := κ₂)
    (r₁ := 0) (r₂ := 0) (d₁ := false) (d₂ := false) (fd := fd) (q := shr dir) (fs := agFull m)
    (by rw [duties_dma m c (role_sNum hh)]; exact Finset.mem_singleton_self _)
    (by rw [duties_dma m _ (role_rNum hh)]; exact Finset.mem_singleton_self _)
    () () N ((View.amount_dma _ _).trans (credit_eq _ _)) rfl rfl O rfl (W := W)
    (by
      show _ ⊢ dmaPay m (role (sNum dir h)) c
      rw [role_sNum hh, slice_set]; exact BI.Entails.refl _)
    (by
      show _ ⊢ dmaPay m (role (rNum dir h)) (nb dir c)
      rw [role_rNum hh, slice_set, pointsTo_congr (landed _ _ _ _)]
      dsimp only [dmaPay]
      rw [chunk_nb dir h (Nat.lt_of_lt_of_le hh (hops_le dir)) c]; exact BI.Entails.refl _)) $$ [Hb Hd Ht₁ Ht₂ HO]
  · rw [slice_set]
    unfold blkPts
    isplitr; · iexact HI₁
    isplitr; · iexact HI₂
    isplitl [Hb]; · iexact Hb
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  rw [wp_ret]; imodintro
  iapply Hk
  isplitl [Hc]; · iexact Hc
  iexists W; iexact HO

/-! ## Waits -/

/-- A wait on a transfer semaphore gets what its units hand over, and closes the cell. -/
theorem wp_dmaWait (c : Dev nD) {s s' : DmaSem sig} (hs' : s' = s) {x} (hs : role s = some x) {off : Fin 2 → ℕ} (hi) (hw)
    (O : CellTallies nD τ sig Unit) (hM : (levAts L lv : sProp 𝕄) ⊢ MayWait (c : Thread nD τ) (.dma s) () O) (Kt : PUnit → sProp 𝕄) :
    iprop(recs m ∗ atPos ER (dmaCell c s) 0 ∅ 0 ∗ cred (tallyAt (dmaCell c s) () N) ∗ debt c O)
      ⊢ iprop(((debt c O ∗ semVal (dmaCell c s) 0 ∗ dmaPay m (some x) c) -∗ Kt ⟨⟩) -∗ WP c (waitP off hi hw s') Kt) := by
  subst hs'
  have hM' : recs (F := F) m ⊢ MayWait (c : Thread nD τ) (.dma s') () O := Entails.trans (by unfold recs; iintro ⟨-, -, H⟩; iexact H) hM
  unfold debt
  iintro ⟨#HR, Hat, Hc, ⟨%W, HO⟩⟩ Hk
  ihave HS := (recs_dma m c hs) $$ HR
  ihave Hc := (Entails.of_eq (congrArg (fun n => (cred (tallyAt (dmaCell c s') () n) : sProp 𝕄)) (credit_eq off hi).symm)) $$ Hc
  ihave HL := hM' $$ HR
  unfold known
  icases HS with ⟨%κ, #HI, -⟩
  unfold waitP Prog.lift
  iapply (Rounds.wp_wait_rest_token 𝒱₀ ER (ringRd m) (c : Thread nD τ) none (κ := κ)
      (wpE_waitDma2_eq 𝒱₀ (c : Thread nD τ) none Set.univ) (Set.mem_univ _) () (O := O) (W := W) (R := 0) (m := 0) (T := ∅)
      ((Nat.zero_add _).trans ((credit_eq off hi).trans (expect_dma m c hs).symm))) $$ [Hc HO Hat HL]
  · isplitr; · iexact HI
    isplitl [Hc]; · iexact Hc
    isplitl [HO]; · iexact HO
    isplitl [HL]; · iexact HL
    iexact Hat
  iintro ⟨HO, Hat, -, Hpay⟩
  ihave Hp := (Entails.of_eq (rest_dma m c hs)) $$ Hpay
  imod (Rounds.cell_close ER (ringRd m) (Set.mem_univ κ) (fun h => h) (R := 0 + 1) (duties_later m (dmaCell c s'))) $$ [Hat] with Hz
  · isplitr; · iexact HI
    iexact Hat
  rw [wp_ret]; imodintro
  iapply Hk
  isplitl [HO]; · iexists _; iexact HO
  isplitl [Hz] <;> iassumption

end Cert.KernelIdeal.Hand

end
-- ==== Proof.KernelIdealPlaces.lean ====
/- The addresses the body computes, named by the ring: devices, windows and semaphores. -/
module

public import proofs.«01_k».proof.Proof.KernelIdealProg
public import proofs.«01_k».proof.Proof.Ring
public import proofs.«01_k».proof.Proof.Rows

@[expose] public section

namespace Cert.KernelIdeal.Hand

open Idealize.ShloMosaic
open Cert.KernelIdeal Cert.Ring Cert.Rows
open Facts₀ Facts

/-- The first signal goes to the neighbour before, -/
theorem dev1_eq (d : Dev nD) : (⟨k0_dev1 d, k0_dev1_lt d⟩ : Dev nD) = nb false d := by
  have h : ∀ d : Fin 16, k0_dev1 d = (nb false d).val := by decide +kernel
  exact Fin.ext (h d)

/-- the second to the next one. -/
theorem dev2_eq (d : Dev nD) : (⟨k0_dev2 d, k0_dev2_lt d⟩ : Dev nD) = nb true d := by
  have h : ∀ d : Fin 16, k0_dev2 d = (nb true d).val := by decide +kernel
  exact Fin.ext (h d)

/-- Clockwise sends go to the next device, -/
theorem devR_eq (d : Dev nD) (h : Fin 8) : devR d h = nb true d := by
  have H : ∀ d : Fin 16, k0_dev3 d = (nb true d).val ∧ k0_dev5 d = (nb true d).val ∧ k0_dev7 d = (nb true d).val
      ∧ k0_dev9 d = (nb true d).val ∧ k0_dev11 d = (nb true d).val ∧ k0_dev13 d = (nb true d).val
      ∧ k0_dev15 d = (nb true d).val ∧ k0_dev17 d = (nb true d).val := by decide +kernel
  obtain ⟨h0, h1, h2, h3, h4, h5, h6, h7⟩ := H d
  fin_cases h
  exacts [Fin.ext h0, Fin.ext h1, Fin.ext h2, Fin.ext h3, Fin.ext h4, Fin.ext h5, Fin.ext h6, Fin.ext h7]

/-- counter-clockwise ones to the device before. -/
theorem devL_eq (d : Dev nD) (h : Fin 7) : devL d h = nb false d := by
  have H : ∀ d : Fin 16, k0_dev4 d = (nb false d).val ∧ k0_dev6 d = (nb false d).val ∧ k0_dev8 d = (nb false d).val
      ∧ k0_dev10 d = (nb false d).val ∧ k0_dev12 d = (nb false d).val ∧ k0_dev14 d = (nb false d).val
      ∧ k0_dev16 d = (nb false d).val := by decide +kernel
  obtain ⟨h0, h1, h2, h3, h4, h5, h6⟩ := H d
  fin_cases h
  exacts [Fin.ext h0, Fin.ext h1, Fin.ext h2, Fin.ext h3, Fin.ext h4, Fin.ext h5, Fin.ext h6]

/-- Two offsets agree when both coordinates do. -/
theorem off_ext {a b : Fin 2 → ℕ} (h : a 0 = b 0 ∧ a 1 = b 1) : a = b :=
  funext fun i => match i with | ⟨0, _⟩ => h.1 | ⟨1, _⟩ => h.2

/-- A device's own rows, -/
theorem off1_eq (d : Dev nD) : k0_off1 d = rowOff d := by
  have h : ∀ d : Fin 16, k0_off1 d 0 = rowOff d 0 ∧ k0_off1 d 1 = rowOff d 1 := by decide +kernel
  exact off_ext (h d)
/-- and those of the result. -/
theorem off4_eq (d : Dev nD) : k0_off4 d = rowOff d := by
  have h : ∀ d : Fin 16, k0_off4 d 0 = rowOff d 0 ∧ k0_off4 d 1 = rowOff d 1 := by decide +kernel
  exact off_ext (h d)
/-- The block sent clockwise, -/
theorem off2_eq (d : Dev nD) (h : Fin 8) : k0_off2 d (BitVec.ofNat 32 h.val) = rowOff (chunk true h.val d) := by
  have H : ∀ (d : Fin 16) (h : Fin 8), k0_off2 d (BitVec.ofNat 32 h.val) 0 = rowOff (chunk true h.val d) 0
      ∧ k0_off2 d (BitVec.ofNat 32 h.val) 1 = rowOff (chunk true h.val d) 1 := by decide +kernel
  exact off_ext (H d h)
/-- the block received clockwise, -/
theorem off5_eq (d : Dev nD) (h : Fin 8) : k0_off5 d (BitVec.ofNat 32 h.val) = rowOff (chunk true (h.val + 1) d) := by
  have H : ∀ (d : Fin 16) (h : Fin 8), k0_off5 d (BitVec.ofNat 32 h.val) 0 = rowOff (chunk true (h.val + 1) d) 0
      ∧ k0_off5 d (BitVec.ofNat 32 h.val) 1 = rowOff (chunk true (h.val + 1) d) 1 := by decide +kernel
  exact off_ext (H d h)
/-- the block multiplied then, -/
theorem off7_eq (d : Dev nD) (h : Fin 8) : k0_off7 d (BitVec.ofNat 32 (1 + h.val)) = rowOff (chunk true (h.val + 1) d) := by
  have H : ∀ (d : Fin 16) (h : Fin 8), k0_off7 d (BitVec.ofNat 32 (1 + h.val)) 0 = rowOff (chunk true (h.val + 1) d) 0
      ∧ k0_off7 d (BitVec.ofNat 32 (1 + h.val)) 1 = rowOff (chunk true (h.val + 1) d) 1 := by decide +kernel
  exact off_ext (H d h)
/-- and where its product goes; -/
theorem off8_eq (d : Dev nD) (h : Fin 8) : k0_off8 d (BitVec.ofNat 32 (1 + h.val)) = rowOff (chunk true (h.val + 1) d) := by
  have H : ∀ (d : Fin 16) (h : Fin 8), k0_off8 d (BitVec.ofNat 32 (1 + h.val)) 0 = rowOff (chunk true (h.val + 1) d) 0
      ∧ k0_off8 d (BitVec.ofNat 32 (1 + h.val)) 1 = rowOff (chunk true (h.val + 1) d) 1 := by decide +kernel
  exact off_ext (H d h)
/-- the same counter-clockwise: the block sent, -/
theorem off3_eq (d : Dev nD) (h : Fin 7) : k0_off3 d (BitVec.ofNat 32 h.val) = rowOff (chunk false h.val d) := by
  have H : ∀ (d : Fin 16) (h : Fin 7), k0_off3 d (BitVec.ofNat 32 h.val) 0 = rowOff (chunk false h.val d) 0
      ∧ k0_off3 d (BitVec.ofNat 32 h.val) 1 = rowOff (chunk false h.val d) 1 := by decide +kernel
  exact off_ext (H d h)
/-- received, -/
theorem off6_eq (d : Dev nD) (h : Fin 7) : k0_off6 d (BitVec.ofNat 32 h.val) = rowOff (chunk false (h.val + 1) d) := by
  have H : ∀ (d : Fin 16) (h : Fin 7), k0_off6 d (BitVec.ofNat 32 h.val) 0 = rowOff (chunk false (h.val + 1) d) 0
      ∧ k0_off6 d (BitVec.ofNat 32 h.val) 1 = rowOff (chunk false (h.val + 1) d) 1 := by decide +kernel
  exact off_ext (H d h)
/-- multiplied, -/
theorem off9_eq (d : Dev nD) (h : Fin 7) : k0_off9 d (BitVec.ofNat 32 (1 + h.val)) = rowOff (chunk false (h.val + 1) d) := by
  have H : ∀ (d : Fin 16) (h : Fin 7), k0_off9 d (BitVec.ofNat 32 (1 + h.val)) 0 = rowOff (chunk false (h.val + 1) d) 0
      ∧ k0_off9 d (BitVec.ofNat 32 (1 + h.val)) 1 = rowOff (chunk false (h.val + 1) d) 1 := by decide +kernel
  exact off_ext (H d h)
/-- and stored. -/
theorem off10_eq (d : Dev nD) (h : Fin 7) : k0_off10 d (BitVec.ofNat 32 (1 + h.val)) = rowOff (chunk false (h.val + 1) d) := by
  have H : ∀ (d : Fin 16) (h : Fin 7), k0_off10 d (BitVec.ofNat 32 (1 + h.val)) 0 = rowOff (chunk false (h.val + 1) d) 0
      ∧ k0_off10 d (BitVec.ofNat 32 (1 + h.val)) 1 = rowOff (chunk false (h.val + 1) d) 1 := by decide +kernel
  exact off_ext (H d h)

/-- The semaphores of the clockwise sends and receives, -/
theorem semSR (h : Fin 8) : sem8 cc0_scratch2 h = sNum true h.val := by revert h; decide +kernel
theorem semRR (h : Fin 8) : sem8 cc0_scratch3 h = rNum true h.val := by revert h; decide +kernel
/-- of the counter-clockwise ones, -/
theorem semSL (h : Fin 7) : sem7 cc0_scratch4 h = sNum false h.val := by revert h; decide +kernel
theorem semRL (h : Fin 7) : sem7 cc0_scratch5 h = rNum false h.val := by revert h; decide +kernel
/-- and of the copies to the result. -/
theorem semCopy : cc0_scratch6.sem = (32 : Fin 33) := by decide +kernel

end Cert.KernelIdeal.Hand
-- ==== Proof.KernelIdealSteps.lean ====
/- A block product of the body, with its copy to the result. -/
module

public import proofs.«01_k».proof.Proof.KernelIdealRules
public import proofs.«01_k».proof.Proof.KernelIdealPlaces

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.Ring Cert.Rows
open Facts₀ Facts

variable {F : FTy → Type} [FloatOps F]

local notation "𝕄" => MT nD τ sig Unit (Elt F) ℕ UU ℕ

variable (m : (ℓ : Loc nD τ sig) → Buf (Elt F) ℓ)

theorem zero2 : (![0, 0] : Fin 2 → ℕ) = fun _ => 0 := funext fun a => by fin_cases a <;> rfl

/-- Loading block `k` touches that block alone. -/
theorem load_set (k : Dev nD) (hi) : gathM.view.setOn (gathRect (rowOff k) hi).toLoadRect.set ⊆ (rowRect 512 k).set := by
  exact ((View.set_slice (v := gathM.view) (gathRect (rowOff k) hi)).symm.trans (slice_set k hi)).subset

/-! ## A block product -/

/-- Device `c`'s staged left block; -/
def aPts (c : Dev nD) : sProp 𝕄 := ((c : Thread nD τ).loc cc0_stg0_0) ↦[Finset.univ]{fullShare} (aBlk m c)
/-- its staged right operand; -/
def bPts (c : Dev nD) : sProp 𝕄 := ((c : Thread nD τ).loc cc0_stg1_0) ↦[Finset.univ]{fullShare} (bMat m c)
/-- the buffer products are rounded into; -/
def tmpPts (c : Dev nD) : sProp 𝕄 := iprop(∃ f, ((c : Thread nD τ).loc cc0_scratch1) ↦[Finset.univ]{fullShare} f)

/-- the result, done on the blocks of `D`. -/
def outDone (c : Dev nD) (D : Fin 16 → Prop) : sProp 𝕄 :=
  iprop(∃ f : (main_v1 : Ref sig .tc).ty.Contents (Elt F), ⌜∀ i : (All 1024).Idx, D (blockOf i) → f i = outFull m c i⌝
    ∗ ((c : Thread nD τ).loc main_v1) ↦[Finset.univ]{fullShare} f)

/-- What a copy of a product block counts. -/
def NC : ℕ := (main_v1 : Ref sig .tc).dmaCredit S1024x1024 .bf16

theorem credit_out (off : Fin 2 → ℕ) (hi) : (outM.slice (outRect off hi) (fun _ => rfl)).view.dmaCredit = NC :=
  (View.dmaCredit_ref _).symm.trans (congrArg (fun b : Ref sig .tc => b.dmaCredit S1024x1024 .bf16)
    (show (outM.slice (outRect off hi) (fun _ => rfl)).view.ref = main_v1 from rfl))

theorem NC_pos : 0 < NC := by
  rw [← credit_out (rowOff 0) (rowInb 1024 0)]; exact View.dmaCredit_pos _ (by decide)

/-- Copying the product of block `k` to its rows makes them right and leaves the others. -/
theorem out_step (c k : Dev nD) (hi) (D : Fin 16 → Prop) (f : (main_v1 : Ref sig .tc).ty.Contents (Elt F))
    (hf : ∀ i : (All 1024).Idx, D (blockOf i) → f i = outFull m c i) :
    ∀ i : (All 1024).Idx, (blockOf i = k ∨ D (blockOf i)) →
      (outM.slice (outRect (rowOff k) hi) (fun _ => rfl)).view.write (Elt F) f (blockProd (aBlk m k) (bMat m c)) Finset.univ i
        = outFull m c i := by
  intro i h
  by_cases hk : blockOf i = k
  · obtain ⟨y, rfl⟩ := exists_emb ((mem_set k i).mpr hk)
    refine (View.write_emb_of_mem (v := (outM.slice (outRect (rowOff k) hi) (fun _ => rfl)).view) f (blockProd (aBlk m k) (bMat m c))
      (Finset.mem_univ y)).trans ?_
    exact (rowsOf_emb (n := 1024) (fun k => blockProd (aBlk m k) (bMat m c)) k y).symm
  · rw [View.write_of_not_mem]
    · exact hf i (h.resolve_left hk)
    · rw [View.setOn_univ, View.set_slice_whole]
      exact fun hm => hk ((mem_set k i).mp hm)

/-- A product of block `k`: loaded, multiplied, rounded, copied to its rows of the result. -/
theorem wp_comp (c k : Dev nD) (q : PosShare TreeShare) {off off' : Fin 2 → ℕ} (ho : off = rowOff k) (ho' : off' = rowOff k)
    (hi) (hi') (hw') (D : Fin 16 → Prop) (O : CellTallies nD τ sig Unit)
    (hM : (levAts L lv : sProp 𝕄) ⊢ MayWait (c : Thread nD τ) (.dma (32 : Fin 33)) () O) (Kt : PUnit → sProp 𝕄) :
    iprop(recs m ∗ blkPts c k q (agFull m) ∗ bPts m c ∗ tmpPts c ∗ semVal (dmaCell c (32 : Fin 33)) 0 ∗ outDone m c D ∗ debt c O)
      ⊢ iprop(((blkPts c k q (agFull m) ∗ bPts m c ∗ tmpPts c ∗ semVal (dmaCell c (32 : Fin 33)) 0
            ∗ outDone m c (fun j => j = k ∨ D j) ∗ debt c O) -∗ Kt ⟨⟩)
          -∗ WP c (compP (Memref.whole cc0_stg1_0) off hi off' hi' hw') Kt) := by
  subst ho ho'
  have hM' : recs (F := F) m ⊢ MayWait (c : Thread nD τ) (.dma (32 : Fin 33)) () O :=
    Entails.trans (by unfold recs; iintro ⟨-, -, H⟩; iexact H) hM
  unfold debt bPts tmpPts outDone
  iintro ⟨#HR, Hb, HB, ⟨%g, Ht⟩, Hz, ⟨%f, %hf, Hf⟩, ⟨%W, HO⟩⟩ Hk
  ihave HL := hM' $$ HR
  unfold compP
  simp only [Prog.lift, Prog.bind_op, Prog.bind_ret, Prog.pure_eq_ret]
  unfold blkPts
  iapply (wp_load 𝒱₀ (c : Thread nD τ) none Set.univ (m := gathM) (S := (rowRect 512 k).set) (q := q) (f := agFull m)
    (load_set k hi)) $$ Hb
  iintro Hb
  iapply (wp_load 𝒱₀ (c : Thread nD τ) none Set.univ (m := Memref.whole cc0_stg1_0) (S := Finset.univ) (q := fullShare) (f := bMat m c)
    (Finset.subset_univ _)) $$ HB
  iintro HB
  iapply (wp_load 𝒱₀ (c : Thread nD τ) none Set.univ (m := prodM) (S := Finset.univ) (q := fullShare) (f := g)
    (Finset.subset_univ _)) $$ Ht
  iintro Ht
  rw [read_blk m k hi, show (Memref.whole cc0_stg1_0 : Memref sig .tc .vmem S512x1024 .bf16).view.readAt (Elt F)
    (Rect.unit (s := S512x1024) ![0, 0] S512x1024.size inb_S512x1024_S512x1024_0_0).toLoadRect (bMat m c) = bMat m c from
      Memref.readAt_unit_zero (Elt F) cc0_stg1_0 zero2 _ _]
  iapply (wp_store 𝒱₀ (c : Thread nD τ) none Set.univ (m := prodM)
    (r := Rect.unit (s := S1024x1024) ![0, 0] S1024x1024.size inb_S1024x1024_S1024x1024_0_0) (Mk := Finset.univ) (S := Finset.univ) (f := g)
    (Finset.subset_univ _)) $$ Ht
  iintro Ht
  rw [show ((prodM).access (Rect.unit (s := S1024x1024) ![0, 0] S1024x1024.size inb_S1024x1024_S1024x1024_0_0)).write (Elt F) g
    (blockProd (aBlk m k) (bMat m c)) Finset.univ = blockProd (aBlk m k) (bMat m c) from
      Memref.write_access_unit_zero_univ (Elt F) cc0_scratch1 zero2 _ _ _]
  iapply (Transfers.wp_dmaLocal EC 𝒱₀ (c : Thread nD τ) none () NC (Sd := Finset.univ) (fd := f) (q := fullShare)
    (src := prodM) (fs := blockProd (aBlk m k) (bMat m c))
    ((View.amount_dma _ _).trans (credit_out (rowOff k) hi')) NC_pos (Finset.subset_univ _)) $$ [Ht Hf Hz]
  · isplitl [Ht]
    · rw [show (prodM.view.set) = Finset.univ from View.set_whole _]; iexact Ht
    isplitl [Hf]; · iexact Hf
    rw [semCopy]; iexact Hz
  iintro HF
  iapply (Transfers.wp_waitLocalO EC 𝒱₀ (c : Thread nD τ) none () (O := O) (W := W) (credit_out (rowOff k) hi')) $$ [HF HO HL]
  · isplitl [HF]; · iexact HF
    isplitl [HO]; · iexact HO
    rw [semCopy]; iexact HL
  iintro ⟨⟨Hf, Ht⟩, Hz, HO⟩
  rw [wp_ret]; imodintro
  iapply Hk
  isplitl [Hb]; · iexact Hb
  isplitl [HB]; · iexact HB
  isplitl [Ht]
  · iexists _; rw [show (prodM.view.set) = Finset.univ from View.set_whole _]; iexact Ht
  isplitl [Hz]; · rw [semCopy]; iexact Hz
  isplitl [Hf]
  · iexists _
    isplitr
    rotate_left
    · iexact Hf
    · ipureintro; exact out_step m c k hi' D f hf
  iexists _; iexact HO

end Cert.KernelIdeal.Hand

end
-- ==== Proof.KernelIdealStart.lean ====
/- The handshake with the neighbours before the first send. -/
module

public import proofs.«01_k».proof.Proof.KernelIdealSteps
public import Idealize.ShloMosaic.Lib.Pipeline.Value

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.Ring Cert.Rows
open Facts₀ Facts

variable {F : FTy → Type} [FloatOps F]

local notation "𝕄" => MT nD τ sig Unit (Elt F) ℕ UU ℕ

variable (m : (ℓ : Loc nD τ sig) → Buf (Elt F) ℓ)

/-! ## The handshake -/

/-- The gathered operand's buffer at some contents, -/
def gathPts (c : Dev nD) (f : (cc0_scratch0 : Ref sig .tc).ty.Contents (Elt F)) : sProp 𝕄 :=
  ((c : Thread nD τ).loc cc0_scratch0) ↦[Finset.univ]{fullShare} f

omit [FloatOps F] in
/-- is its sixteen blocks: the device's own and those that will reach it from either side. -/
theorem gath_blocks (c : Dev nD) (f) :
    gathPts (F := F) c f = iprop(blkPts c c fullShare f
      ∗ (bigSep (Finset.Ico 0 (hops true)) fun j => blkPts c (chunk true (j + 1) c) fullShare f)
      ∗ bigSep (Finset.Ico 0 (hops false)) fun j => blkPts c (chunk false (j + 1) c) fullShare f) := by
  rw [← bigSep_blocks c fun k => blkPts (F := F) c k fullShare f]
  unfold gathPts blkPts
  have e : (Finset.univ : Finset (Idx ((c : Thread nD τ).loc cc0_scratch0)))
      = (Finset.univ : Finset (Fin 16)).biUnion fun k => (rowRect 512 k).set := (biUnion (n := 512)).symm
  rw [e]
  exact pointsTo_biUnion _ _ (disjoint (n := 512))

omit [FloatOps F] in
/-- The places of the blocks that come from one side are what the signal to that side hands over. -/
theorem bar_give (dir : Bool) (c : Dev nD) (f) :
    (bigSep (Finset.Ico 0 (hops dir)) fun j => blkPts (F := F) c (chunk dir (j + 1) c) fullShare f) ⊢ barPay dir (nb (!dir) c) := by
  unfold barPay
  rw [nb_nb']
  refine bigSep_mono fun j hj => ?_
  rw [show chunk dir j (nb (!dir) c) = chunk dir (j + 1) c from by
    rw [← chunk_nb dir j (Nat.lt_of_lt_of_le (Finset.mem_Ico.mp hj).2 (hops_le dir)) (nb (!dir) c), nb_nb']]
  show blkPts (F := F) c (chunk dir (j + 1) c) fullShare f ⊢ iprop(∃ f', blkPts c (chunk dir (j + 1) c) fullShare f')
  iintro H; iexists f; iexact H

/-- Storing the device's own block makes that block of the gathered operand right. -/
theorem own_store (c : Dev nD) (hi) (f : (cc0_scratch0 : Ref sig .tc).ty.Contents (Elt F)) :
    ∀ i ∈ (rowRect 512 c).set,
      (gathM.access (gathRect (rowOff c) hi)).write (Elt F) f
        (shapeCast S1024x512 (shapeCast S1024x512 (aBlk m c) shapeCasts_S1024x512_S1024x512) shapeCasts_S1024x512_S1024x512)
        Finset.univ i = agFull m i := by
  intro i h
  obtain ⟨y, rfl⟩ := exists_emb h
  rw [shapeCast_self, shapeCast_self]
  refine (View.write_emb_of_mem (v := gathM.access (gathRect (rowOff c) hi)) f (aBlk m c) (Finset.mem_univ y)).trans ?_
  exact (rowsOf_emb (n := 512) (fun k => aBlk m k) c y).symm

/-- Storing the own block: the rows of the device's own block come to hold it. -/
theorem wp_own (c : Dev nD) {off : Fin 2 → ℕ} (ho : off = rowOff c) (hi) (hp) (f) (Kt : PUnit → sProp 𝕄) :
    iprop(aPts m c ∗ blkPts c c fullShare f)
      ⊢ iprop(((aPts m c ∗ blkPts c c fullShare (agFull m)) -∗ Kt ⟨⟩) -∗ WP c (ownP (Memref.whole cc0_stg0_0) off hi hp) Kt) := by
  subst ho
  unfold aPts blkPts
  iintro ⟨HA, Hown⟩ Hk
  unfold ownP
  simp only [Prog.lift, Prog.bind_op, Prog.bind_ret, Prog.pure_eq_ret]
  iapply (wp_load 𝒱₀ (c : Thread nD τ) none Set.univ (m := Memref.whole cc0_stg0_0) (S := Finset.univ) (q := fullShare) (f := aBlk m c)
    (Finset.subset_univ _)) $$ HA
  iintro HA
  iapply (wp_load 𝒱₀ (c : Thread nD τ) none Set.univ (m := gathM) (S := (rowRect 512 c).set) (q := fullShare) (f := f)
    (load_set c _)) $$ Hown
  iintro Hown
  rw [show (Memref.whole cc0_stg0_0 : Memref sig .tc .vmem S1024x512 .bf16).view.readAt (Elt F)
    (Rect.unit (s := S1024x512) ![0, 0] S1024x512.size inb_S1024x512_S1024x512_0_0).toLoadRect (aBlk m c) = aBlk m c from
      Memref.readAt_unit_zero (Elt F) cc0_stg0_0 zero2 _ _]
  iapply (wp_store 𝒱₀ (c : Thread nD τ) none Set.univ (m := gathM)
    (r := gathRect (rowOff c) hi) (Mk := Finset.univ) (S := (rowRect 512 c).set) (f := f)
    (slice_set c _).subset) $$ Hown
  iintro Hown
  ihave Hown := (Entails.of_eq (pointsTo_congr (own_store m c hi f))) $$ Hown
  rw [wp_ret]; imodintro
  iapply Hk
  isplitl [HA]; · iexact HA
  iexact Hown

set_option maxHeartbeats 1000000 in
/-- The handshake: both neighbours are told that they may write here; both have told so; the device's own
    block is in place. -/
theorem wp_start (c : Dev nD) (Kt : PUnit → sProp 𝕄) :
    iprop(recs m ∗ atPos ER (barCell c) 0 ∅ 0 ∗ dutyTok ER (barCell (nb false c)) 0 true ∗ dutyTok ER (barCell (nb true c)) 0 false
        ∗ cred (tallyAt (barCell c) () 2) ∗ debt c (O₀ c) ∗ aPts m c ∗ (∃ f, gathPts c f))
      ⊢ iprop(((debt c (Oat 0 0 c) ∗ semVal (barCell c) 0 ∗ barPay true c ∗ barPay false c ∗ aPts m c ∗ blkPts c c fullShare (agFull m)) -∗ Kt ⟨⟩)
          -∗ WP c (startP (Memref.whole cc0_stg0_0) c) Kt) := by
  have hM : recs (F := F) m ⊢ MayWait (c : Thread nD τ) (.reg barSem) () (Oat 0 0 c) :=
    Entails.trans (by unfold recs; iintro ⟨-, -, H⟩; iexact H) (mayWait c (.reg barSem) 0 0 fun dir j _ _ => by show 1 < j + 2; omega)
  unfold debt aPts
  iintro ⟨#HR, Hat, Ht₁, Ht₂, Hc, ⟨%W, HO⟩, HA, ⟨%f, Hg⟩⟩ Hk
  ihave HL := hM $$ HR
  ihave HB := (recs_bar m c) $$ HR
  ihave HN := (recs_bar m (nb false c)) $$ HR
  ihave HP := (recs_bar m (nb true c)) $$ HR
  unfold known
  icases HB with ⟨%κ, #HI, -⟩
  icases HN with ⟨%κ₁, #HI₁, #Hr₁⟩
  icases HP with ⟨%κ₂, #HI₂, #Hr₂⟩
  ihave Hg := (Entails.of_eq (gath_blocks c f)) $$ Hg
  icases Hg with ⟨Hown, Hcw, Hcc⟩
  ihave Hcw := (show _ ⊢ (ringRd m).payload (barCell (nb false c)) 0 true from bar_give true c f) $$ Hcw
  ihave Hcc := (show _ ⊢ (ringRd m).payload (barCell (nb true c)) 0 false from bar_give false c f) $$ Hcc
  unfold startP
  simp only [semSignalWord, semWaitWord, Prog.bind_op, Prog.bind_ret, Prog.pure_eq_ret]
  rw [dev1_eq, dev2_eq]
  iapply (Rounds.wp_signal 𝒱₀ ER (ringRd m) (c : Thread nD τ) none (dst := (nb false c : Thread nD τ)) (κ := κ₁) (r := 0)
      (d := true) (by rw [duties_bar]; exact Finset.mem_univ _) (show (1 : ℕ) = _ by decide) () (O₁ c) rfl) $$ [HO Ht₁ Hcw]
  · isplitr; · iexact HI₁
    isplitl [HO]; · iexact HO
    isplitl [Ht₁]; · iexact Ht₁
    isplitl [Hcw]; · iexact Hcw
    iexact Hr₁
  iintro HO
  iapply (Rounds.wp_signal 𝒱₀ ER (ringRd m) (c : Thread nD τ) none (dst := (nb true c : Thread nD τ)) (κ := κ₂) (r := 0)
      (d := false) (by rw [duties_bar]; exact Finset.mem_univ _) (show (1 : ℕ) = _ by decide) () (Oat 0 0 c) rfl) $$ [HO Ht₂ Hcc]
  · isplitr; · iexact HI₂
    isplitl [HO]; · iexact HO
    isplitl [Ht₂]; · iexact Ht₂
    isplitl [Hcc]; · iexact Hcc
    iexact Hr₂
  iintro HO
  iapply (Rounds.wp_wait_rest_token 𝒱₀ ER (ringRd m) (c : Thread nD τ) none (κ := κ)
      (wpE_semWait_eq 𝒱₀ (c : Thread nD τ) none Set.univ) (Set.mem_univ _) () (O := Oat 0 0 c) (W := W) (R := 0) (m := 0) (T := ∅)
      (by rw [expect_bar]; decide)) $$ [Hc HO Hat HL]
  · isplitr; · iexact HI
    isplitl [Hc]; · iexact Hc
    isplitl [HO]; · iexact HO
    isplitl [HL]; · iexact HL
    iexact Hat
  iintro ⟨HO, Hat, -, Hpay⟩
  ihave Hp := (Entails.of_eq (rest_bar m c)) $$ Hpay
  icases Hp with ⟨Hp₁, Hp₂⟩
  imod (Rounds.cell_close ER (ringRd m) (Set.mem_univ κ) (fun h => h) (R := 0 + 1) (duties_later m (barCell c))) $$ [Hat] with Hz
  · isplitr; · iexact HI
    iexact Hat
  iapply (wp_own m c (off1_eq c) _ _ f Kt) $$ [HA Hown]
  · unfold aPts
    isplitl [HA]; · iexact HA
    iexact Hown
  unfold aPts
  iintro ⟨HA, Hown⟩
  iapply Hk
  isplitl [HO]; · iexists _; iexact HO
  isplitl [Hz]; · iexact Hz
  isplitl [Hp₁]; · iexact Hp₁
  isplitl [Hp₂]; · iexact Hp₂
  isplitl [HA]; · iexact HA
  iexact Hown

end Cert.KernelIdeal.Hand

end
-- ==== Proof.KernelIdealHops.lean ====
/- What one device holds between two hops, and what a hop makes of it. -/
module

public import proofs.«01_k».proof.Proof.KernelIdealStart
public import Idealize.SL.BI.BigOpNat

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.Ring Cert.Rows
open Facts₀ Facts

variable {F : FTy → Type} [FloatOps F]

local notation "𝕄" => MT nD τ sig Unit (Elt F) ℕ UU ℕ

variable (m : (ℓ : Loc nD τ sig) → Buf (Elt F) ℓ)

/-- A sequence of two pieces. -/
theorem WP_bind (c : Dev nD) {α β : Type} (p : P (F := F) α) (k : α → P (F := F) β) (Q : β → sProp 𝕄) :
    WP c (p >>= k) Q = WP c p fun a => WP c (k a) Q := wp_bind _ _ _ p k Q

/-! ## A lane: what belongs to one direction -/

/-- The blocks received in a direction after `h` hops. -/
def Got (dir : Bool) (h : ℕ) (c : Dev nD) : sProp 𝕄 :=
  bigSep (Finset.Ico 0 h) fun j => blkPts c (chunk dir (j + 1) c) fullShare (agFull m)

/-- What the waits of hop `j` need: the positions on both semaphores and the credit of the block to come. -/
def wtItem (dir : Bool) (j : ℕ) (c : Dev nD) : sProp 𝕄 :=
  iprop(atPos ER (sCell dir j c) 0 ∅ 0 ∗ atPos ER (rCell dir j c) 0 ∅ 0 ∗ cred (tallyAt (rCell dir j c) () N))

/-- What a hop leaves of its two semaphores. -/
def zItem (dir : Bool) (j : ℕ) (c : Dev nD) : sProp 𝕄 :=
  iprop(semVal (sCell dir j c) 0 ∗ semVal (rCell dir j c) 0)

/-- What hop `h` does not touch. -/
def Pend (dir : Bool) (h : ℕ) (c : Dev nD) : sProp 𝕄 :=
  iprop((bigSep (Finset.Ico (h + 1) (hops dir)) fun j => sndItem dir j c)
    ∗ (bigSep (Finset.Ico (h + 1) (hops dir)) fun j => wtItem dir j c)
    ∗ bigSep (Finset.Ico 0 h) fun j => zItem dir j c)

/-- What a direction holds after `h` hops. -/
def Lane (dir : Bool) (h : ℕ) (c : Dev nD) : sProp 𝕄 :=
  iprop(Got m dir h c ∗ (bigSep (Finset.Ico h (hops dir)) fun j => sndItem dir j c)
    ∗ (bigSep (Finset.Ico h (hops dir)) fun j => wtItem dir j c)
    ∗ bigSep (Finset.Ico 0 h) fun j => zItem dir j c)

omit [FloatOps F] in
/-- A lane before hop `h`: what that hop needs, and the rest. -/
theorem lane_next {dir : Bool} {h : ℕ} (hh : h < hops dir) (c : Dev nD) :
    Lane (F := F) m dir h c ⊢ iprop(Got m dir h c ∗ sndItem dir h c ∗ wtItem dir h c ∗ Pend dir h c) := by
  unfold Lane Pend
  rw [bigSep_Ico_succ_bot hh, bigSep_Ico_succ_bot hh]
  iintro ⟨HG, ⟨Hs, HS⟩, ⟨Hw, HW⟩, HZ⟩
  isplitl [HG]; · iexact HG
  isplitl [Hs]; · iexact Hs
  isplitl [Hw]; · iexact Hw
  isplitl [HS]; · iexact HS
  isplitl [HW] <;> iassumption

omit [FloatOps F] in
/-- The blocks received with the last one apart. -/
theorem got_succ (dir : Bool) (h : ℕ) (c : Dev nD) :
    Got (F := F) m dir (h + 1) c ⊣⊢ iprop(Got m dir h c ∗ blkPts c (chunk dir (h + 1) c) fullShare (agFull m)) := by
  unfold Got
  rw [bigSep_Ico_succ_top (Nat.zero_le h)]
  refine ⟨?_, ?_⟩ <;>
  · iintro ⟨H, H'⟩
    isplitl [H'] <;> iassumption

omit [FloatOps F] in
/-- A lane after hop `h`. -/
theorem lane_done (dir : Bool) (h : ℕ) (c : Dev nD) :
    iprop(Got m dir h c ∗ Pend dir h c ∗ zItem dir h c ∗ blkPts c (chunk dir (h + 1) c) fullShare (agFull m)) ⊢ Lane (F := F) m dir (h + 1) c := by
  unfold Lane Pend
  rw [bigSep_Ico_succ_top (b := h) (Nat.zero_le h) fun j => zItem (F := F) dir j c]
  iintro ⟨HG, ⟨HS, HW, HZ⟩, Hz, Hb⟩
  isplitl [HG Hb]
  · iapply (got_succ m dir h c).2
    isplitl [HG] <;> iassumption
  isplitl [HS]; · iexact HS
  isplitl [HW]; · iexact HW
  isplitl [Hz] <;> iassumption

omit [FloatOps F] in
/-- The block last received, taken out of a lane and put back. -/
theorem lane_top (dir : Bool) (h : ℕ) (c : Dev nD) :
    Lane (F := F) m dir (h + 1) c ⊢ iprop(blkPts c (chunk dir (h + 1) c) fullShare (agFull m)
      ∗ (blkPts c (chunk dir (h + 1) c) fullShare (agFull m) -∗ Lane m dir (h + 1) c)) := by
  unfold Lane
  iintro ⟨HG, HR⟩
  ihave HG := (got_succ m dir h c).1 $$ HG
  icases HG with ⟨HG, Hb⟩
  isplitl [Hb]; · iexact Hb
  iintro Hb
  isplitl [HG Hb]
  · iapply (got_succ m dir h c).2
    isplitl [HG] <;> iassumption
  iexact HR

/-! ## The pieces of a hop -/

/-- The clockwise send of hop `h`. -/
theorem wp_sendR (c : Dev nD) (h : Fin 8) (b : ℕ) (Kt : PUnit → sProp 𝕄) :
    iprop(recs m ∗ blkPts c (chunk true h.val c) (shr true) (agFull m) ∗ sndItem true h.val c ∗ debt c (Oat h.val b c))
      ⊢ iprop(((cred (tallyAt (sCell true h.val c) () N) ∗ debt c (Oat (h.val + 1) b c)) -∗ Kt ⟨⟩) -∗ WP c (sendR c h) Kt) := by
  rw [oat_cw b h.isLt]
  exact wp_send m (show h.val < hops true from h.isLt) c _ (devR_eq c h) (off2_eq c h) _ _ (semSR h) (semRR h) _ Kt

/-- The counter-clockwise send of hop `h`. -/
theorem wp_sendL (c : Dev nD) (h : Fin 7) (a : ℕ) (Kt : PUnit → sProp 𝕄) :
    iprop(recs m ∗ blkPts c (chunk false h.val c) (shr false) (agFull m) ∗ sndItem false h.val c ∗ debt c (Oat a h.val c))
      ⊢ iprop(((cred (tallyAt (sCell false h.val c) () N) ∗ debt c (Oat a (h.val + 1) c)) -∗ Kt ⟨⟩) -∗ WP c (sendL c h) Kt) := by
  rw [oat_ccw a h.isLt]
  exact wp_send m (show h.val < hops false from h.isLt) c _ (devL_eq c h) (off3_eq c h) _ _ (semSL h) (semRL h) _ Kt

/-- The clockwise waits of hop `h`. -/
theorem wp_waitR (c : Dev nD) (h : Fin 8) (b : ℕ) (hb : ∀ j, b ≤ j → j < 7 → h.val < j) (Kt : PUnit → sProp 𝕄) :
    iprop(recs m ∗ wtItem true h.val c ∗ cred (tallyAt (sCell true h.val c) () N) ∗ debt c (Oat (h.val + 1) b c))
      ⊢ iprop(((debt c (Oat (h.val + 1) b c) ∗ zItem true h.val c ∗ blkPts c (chunk true h.val c) (shr true) (agFull m)
            ∗ blkPts c (chunk true (h.val + 1) c) fullShare (agFull m)) -∗ Kt ⟨⟩) -∗ WP c (waitR c h) Kt) := by
  have hh : h.val < hops true := h.isLt
  have hM : ∀ sm : SemLoc sig, lvOf sm ≤ h.val + 2 → (levAts L lv : sProp 𝕄) ⊢ MayWait (c : Thread nD τ) sm () (Oat (h.val + 1) b c) :=
    fun sm hs => mayWait c sm _ _ fun dir j hj hj' => by
      cases dir
      · have := hb j hj hj'; omega
      · have : h.val + 1 ≤ j := hj; omega
  unfold waitR wtItem zItem
  rw [WP_bind]
  iintro ⟨#HR, ⟨Ha, Ha', Hc'⟩, Hc, HO⟩ Hk
  iapply (wp_dmaWait m c (semSR h) (role_sNum hh) _ _ _ (hM _ (by rw [lv_send hh]; omega))) $$ [Ha Hc HO]
  · isplitr; · iexact HR
    isplitl [Ha]; · iexact Ha
    isplitl [Hc] <;> iassumption
  iintro ⟨HO, Hz, Hb⟩
  iapply (wp_dmaWait m c (semRR h) (role_rNum hh) _ _ _ (hM _ (by rw [lv_recv hh]))) $$ [Ha' Hc' HO]
  · isplitr; · iexact HR
    isplitl [Ha']; · iexact Ha'
    isplitl [Hc'] <;> iassumption
  iintro ⟨HO, Hz', Hb'⟩
  iapply Hk
  unfold dmaPay
  isplitl [HO]; · iexact HO
  isplitl [Hz Hz']; · isplitl [Hz] <;> iassumption
  isplitl [Hb] <;> iassumption

/-- The counter-clockwise waits of hop `h`. -/
theorem wp_waitL (c : Dev nD) (h : Fin 7) (a : ℕ) (ha : ∀ j, a ≤ j → j < 8 → h.val < j) (Kt : PUnit → sProp 𝕄) :
    iprop(recs m ∗ wtItem false h.val c ∗ cred (tallyAt (sCell false h.val c) () N) ∗ debt c (Oat a (h.val + 1) c))
      ⊢ iprop(((debt c (Oat a (h.val + 1) c) ∗ zItem false h.val c ∗ blkPts c (chunk false h.val c) (shr false) (agFull m)
            ∗ blkPts c (chunk false (h.val + 1) c) fullShare (agFull m)) -∗ Kt ⟨⟩) -∗ WP c (waitL c h) Kt) := by
  have hh : h.val < hops false := h.isLt
  have hM : ∀ sm : SemLoc sig, lvOf sm ≤ h.val + 2 → (levAts L lv : sProp 𝕄) ⊢ MayWait (c : Thread nD τ) sm () (Oat a (h.val + 1) c) :=
    fun sm hs => mayWait c sm _ _ fun dir j hj hj' => by
      cases dir
      · have : h.val + 1 ≤ j := hj; omega
      · have := ha j hj hj'; omega
  unfold waitL wtItem zItem
  rw [WP_bind]
  iintro ⟨#HR, ⟨Ha, Ha', Hc'⟩, Hc, HO⟩ Hk
  iapply (wp_dmaWait m c (semSL h) (role_sNum hh) _ _ _ (hM _ (by rw [lv_send hh]; omega))) $$ [Ha Hc HO]
  · isplitr; · iexact HR
    isplitl [Ha]; · iexact Ha
    isplitl [Hc] <;> iassumption
  iintro ⟨HO, Hz, Hb⟩
  iapply (wp_dmaWait m c (semRL h) (role_rNum hh) _ _ _ (hM _ (by rw [lv_recv hh]))) $$ [Ha' Hc' HO]
  · isplitr; · iexact HR
    isplitl [Ha']; · iexact Ha'
    isplitl [Hc'] <;> iassumption
  iintro ⟨HO, Hz', Hb'⟩
  iapply Hk
  unfold dmaPay
  isplitl [HO]; · iexact HO
  isplitl [Hz Hz']; · isplitl [Hz] <;> iassumption
  isplitl [Hb] <;> iassumption

/-- What the products use besides a block. -/
def Work (c : Dev nD) (D : Fin 16 → Prop) : sProp 𝕄 :=
  iprop(bPts m c ∗ tmpPts c ∗ semVal (dmaCell c (32 : Fin 33)) 0 ∗ outDone m c D)

/-- The wait for a copy to the result is allowed in every hop. -/
theorem wait_copy (c : Dev nD) (a b : ℕ) : (levAts L lv : sProp 𝕄) ⊢ MayWait (c : Thread nD τ) (.dma (32 : Fin 33)) () (Oat a b c) :=
  mayWait c _ a b fun dir j _ _ => by
    have : lvOf (.dma (32 : Fin 33) : SemLoc sig) = 0 := by decide
    rw [this]; omega

/-- A product in a hop, of block `k` at any share. -/
theorem wp_prod (c k : Dev nD) (q : PosShare TreeShare) {off off' : Fin 2 → ℕ} (ho : off = rowOff k) (ho' : off' = rowOff k)
    (hi) (hi') (hw') (D : Fin 16 → Prop) (a b : ℕ) (Kt : PUnit → sProp 𝕄) :
    iprop(recs m ∗ blkPts c k q (agFull m) ∗ Work m c D ∗ debt c (Oat a b c))
      ⊢ iprop(((blkPts c k q (agFull m) ∗ Work m c (fun j => j = k ∨ D j) ∗ debt c (Oat a b c)) -∗ Kt ⟨⟩)
          -∗ WP c (compP (Memref.whole cc0_stg1_0) off hi off' hi' hw') Kt) := by
  unfold Work
  iintro ⟨#HR, Hb, ⟨HB, Ht, Hz, Hf⟩, HO⟩ Hk
  iapply (wp_comp m c k q ho ho' hi hi' hw' D _ (wait_copy c a b)) $$ [Hb HB Ht Hz Hf HO]
  · isplitr; · iexact HR
    isplitl [Hb]; · iexact Hb
    isplitl [HB]; · iexact HB
    isplitl [Ht]; · iexact Ht
    isplitl [Hz]; · iexact Hz
    isplitl [Hf] <;> iassumption
  iintro ⟨Hb, HB, Ht, Hz, Hf, HO⟩
  iapply Hk
  isplitl [Hb]; · iexact Hb
  isplitr [HO]
  · isplitl [HB]; · iexact HB
    isplitl [Ht]; · iexact Ht
    isplitl [Hz] <;> iassumption
  iexact HO

/-- The blocks of the result done after the products of `n` hops. -/
def Dn (c : Dev nD) (n : ℕ) (j : Fin 16) : Prop := j = c ∨ ∃ i < n, j = chunk true (i + 1) c ∨ j = chunk false (i + 1) c

theorem work_mono (c : Dev nD) {D D' : Fin 16 → Prop} (h : ∀ j, D' j → D j) : Work (F := F) m c D ⊢ Work m c D' := by
  unfold Work outDone
  iintro ⟨HB, Ht, Hz, ⟨%f, %hf, Hf⟩⟩
  isplitl [HB]; · iexact HB
  isplitl [Ht]; · iexact Ht
  isplitl [Hz]; · iexact Hz
  iexists f
  isplitr
  · ipureintro; exact fun i hi => hf i (h _ hi)
  iexact Hf

theorem dn_step (c : Dev nD) (n : ℕ) (j : Fin 16) (h : Dn c (n + 1) j) :
    j = chunk false (n + 1) c ∨ j = chunk true (n + 1) c ∨ Dn c n j := by
  rcases h with h | ⟨i, hi, h⟩
  · exact .inr (.inr (.inl h))
  · rcases Nat.lt_succ_iff_lt_or_eq.mp hi with hi | rfl
    · exact .inr (.inr (.inr ⟨i, hi, h⟩))
    · exact h.elim (fun h => .inr (.inl h)) .inl

theorem dn_all (c j : Fin 16) : j = chunk true 8 c ∨ Dn c 7 j := by
  have H : ∀ c j : Fin 16, j = chunk true 8 c ∨ (j = c ∨ ∃ i < 7, j = chunk true (i + 1) c ∨ j = chunk false (i + 1) c) := by decide +kernel
  exact H c j

/-- What a device holds after `a` clockwise and `b` counter-clockwise hops, the result done on `D`. -/
def St (a b : ℕ) (D : Fin 16 → Prop) (c : Dev nD) : sProp 𝕄 :=
  iprop(blkPts c c fullShare (agFull m) ∗ Lane m true a c ∗ Lane m false b c ∗ Work m c D ∗ debt c (Oat a b c))

end Cert.KernelIdeal.Hand

end
-- ==== Proof.KernelIdealBody.lean ====
/- The body of one device, from the handshake to the last product. -/
module

public import proofs.«01_k».proof.Proof.KernelIdealHops

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.Ring Cert.Rows
open Facts₀ Facts

variable {F : FTy → Type} [FloatOps F]

local notation "𝕄" => MT nD τ sig Unit (Elt F) ℕ UU ℕ

variable (m : (ℓ : Loc nD τ sig) → Buf (Elt F) ℓ)

omit [FloatOps F] in
/-- A lane after its hop: the shares of the block sent come together, the block received joins them. -/
theorem lane_close (dir : Bool) (h : ℕ) (c : Dev nD) :
    iprop(Got m dir h c ∗ Pend dir (h + 1) c ∗ zItem dir (h + 1) c
        ∗ (blkPts c (chunk dir (h + 1) c) (shr dir) (agFull m) ∗ blkPts c (chunk dir (h + 1) c) (shr !dir) (agFull m)
            ∗ blkPts c (chunk dir (h + 1) c) shrL (agFull m))
        ∗ blkPts c (chunk dir (h + 1 + 1) c) fullShare (agFull m)) ⊢ Lane (F := F) m dir (h + 1 + 1) c := by
  iintro ⟨HG, HP, Hz, Hs, Hb⟩
  ihave Hs := (blk_split dir c (chunk dir (h + 1) c) (agFull m)).2 $$ Hs
  iapply (lane_done m dir (h + 1) c)
  isplitl [HG Hs]
  · iapply (got_succ m dir h c).2
    isplitl [HG] <;> iassumption
  isplitl [HP]; · iexact HP
  isplitl [Hz] <;> iassumption

/-- Hop 0. -/
theorem wp_hop0 (c : Dev nD) (Kt : PUnit → sProp 𝕄) :
    iprop(recs m ∗ St m 0 0 (fun _ => False) c)
      ⊢ iprop((St m 1 1 (Dn c 0) c -∗ Kt ⟨⟩) -∗ WP c (hop0 (Memref.whole cc0_stg1_0) c) Kt) := by
  unfold hop0 St
  simp only [WP_bind]
  iintro ⟨#HR, Hown, HR₀, HL₀, HW, HO⟩ Hk
  ihave HR₀ := (lane_next m (dir := true) (h := 0) (by decide) c) $$ HR₀
  ihave HL₀ := (lane_next m (dir := false) (h := 0) (by decide) c) $$ HL₀
  icases HR₀ with ⟨HGr, Hsr, Hwr, HPr⟩
  icases HL₀ with ⟨HGl, Hsl, Hwl, HPl⟩
  ihave Hown := (blk_split true c c (agFull m)).1 $$ Hown
  icases Hown with ⟨Hbr, Hbl, Hbp⟩
  iapply (wp_sendR m c (0 : Fin 8) 0) $$ [Hbr Hsr HO]
  · isplitr; · iexact HR
    isplitl [Hbr]; · rw [show chunk true ((0 : Fin 8) : ℕ) c = c from chunk_zero true c]; iexact Hbr
    isplitl [Hsr]; · iexact Hsr
    iexact HO
  iintro ⟨Hcr, HO⟩
  iapply (wp_sendL m c (0 : Fin 7) 1) $$ [Hbl Hsl HO]
  · isplitr; · iexact HR
    isplitl [Hbl]; · rw [show chunk false ((0 : Fin 7) : ℕ) c = c from chunk_zero false c]; iexact Hbl
    isplitl [Hsl]; · iexact Hsl
    iexact HO
  iintro ⟨Hcl, HO⟩
  iapply (wp_prod m c c shrL (off1_eq c) (off4_eq c) _ _ _ (fun _ => False) 1 1) $$ [Hbp HW HO]
  · isplitr; · iexact HR
    isplitl [Hbp]; · iexact Hbp
    isplitl [HW]; · iexact HW
    iexact HO
  iintro ⟨Hbp, HW, HO⟩
  iapply (wp_waitR m c (0 : Fin 8) 1 (fun j h _ => h)) $$ [Hwr Hcr HO]
  · isplitr; · iexact HR
    isplitl [Hwr]; · iexact Hwr
    isplitl [Hcr]; · iexact Hcr
    iexact HO
  iintro ⟨HO, Hzr, Hbr, Hnr⟩
  iapply (wp_waitL m c (0 : Fin 7) 1 (fun j h _ => h)) $$ [Hwl Hcl HO]
  · isplitr; · iexact HR
    isplitl [Hwl]; · iexact Hwl
    isplitl [Hcl]; · iexact Hcl
    iexact HO
  iintro ⟨HO, Hzl, Hbl, Hnl⟩
  rw [show chunk true ((0 : Fin 8) : ℕ) c = c from chunk_zero true c, show chunk false ((0 : Fin 7) : ℕ) c = c from chunk_zero false c]
  iapply Hk
  isplitl [Hbr Hbl Hbp]
  · iapply (blk_split true c c (agFull m)).2
    isplitl [Hbr]; · iexact Hbr
    isplitl [Hbl]; · iexact Hbl
    iexact Hbp
  isplitl [HGr HPr Hzr Hnr]
  · iapply (lane_done m true 0 c)
    isplitl [HGr]; · iexact HGr
    isplitl [HPr]; · iexact HPr
    isplitl [Hzr]; · iexact Hzr
    iexact Hnr
  isplitl [HGl HPl Hzl Hnl]
  · iapply (lane_done m false 0 c)
    isplitl [HGl]; · iexact HGl
    isplitl [HPl]; · iexact HPl
    isplitl [Hzl]; · iexact Hzl
    iexact Hnl
  isplitl [HW]
  · iapply (work_mono m c (D := fun j => j = c ∨ False) (D' := Dn c 0) (fun j h => h.elim .inl fun ⟨i, hi, _⟩ => absurd hi (Nat.not_lt_zero i)))
    iexact HW
  iexact HO

/-- Hop `h + 1`, for the hops in the middle. -/
theorem wp_hopS (c : Dev nD) (h : Fin 6) (Kt : PUnit → sProp 𝕄) :
    iprop(recs m ∗ St m (h.val + 1) (h.val + 1) (Dn c h.val) c)
      ⊢ iprop((St m (h.val + 2) (h.val + 2) (Dn c (h.val + 1)) c -∗ Kt ⟨⟩) -∗ WP c (hopS (Memref.whole cc0_stg1_0) c h) Kt) := by
  have hr : h.val + 1 < 8 := by omega
  have hl : h.val + 1 < 7 := by omega
  have hr' : h.val < 8 := by omega
  have hl' : h.val < 7 := by omega
  unfold hopS St compR compL
  simp only [WP_bind]
  iintro ⟨#HR, Hown, HR₀, HL₀, HW, HO⟩ Hk
  ihave HR₀ := (lane_next m (dir := true) (h := h.val + 1) hr c) $$ HR₀
  ihave HL₀ := (lane_next m (dir := false) (h := h.val + 1) hl c) $$ HL₀
  icases HR₀ with ⟨HGr, Hsr, Hwr, HPr⟩
  icases HL₀ with ⟨HGl, Hsl, Hwl, HPl⟩
  ihave HGr := (got_succ m true h.val c).1 $$ HGr
  icases HGr with ⟨HGr, Hr⟩
  ihave HGl := (got_succ m false h.val c).1 $$ HGl
  icases HGl with ⟨HGl, Hl⟩
  ihave Hr := (blk_split true c (chunk true (h.val + 1) c) (agFull m)).1 $$ Hr
  icases Hr with ⟨Hr₁, Hr₂, Hr₃⟩
  ihave Hl := (blk_split false c (chunk false (h.val + 1) c) (agFull m)).1 $$ Hl
  icases Hl with ⟨Hl₁, Hl₂, Hl₃⟩
  iapply (wp_sendR m c (⟨h.val + 1, hr⟩ : Fin 8) (h.val + 1)) $$ [Hr₁ Hsr HO]
  · isplitr; · iexact HR
    isplitl [Hr₁]; · iexact Hr₁
    isplitl [Hsr]; · iexact Hsr
    iexact HO
  iintro ⟨Hcr, HO⟩
  iapply (wp_sendL m c (⟨h.val + 1, hl⟩ : Fin 7) (h.val + 2)) $$ [Hl₁ Hsl HO]
  · isplitr; · iexact HR
    isplitl [Hl₁]; · iexact Hl₁
    isplitl [Hsl]; · iexact Hsl
    iexact HO
  iintro ⟨Hcl, HO⟩
  iapply (wp_prod m c (chunk true (h.val + 1) c) shrL (off7_eq c ⟨h.val, hr'⟩) (off8_eq c ⟨h.val, hr'⟩) _ _ _
    (Dn c h.val) (h.val + 2) (h.val + 2)) $$ [Hr₃ HW HO]
  · isplitr; · iexact HR
    isplitl [Hr₃]; · iexact Hr₃
    isplitl [HW]; · iexact HW
    iexact HO
  iintro ⟨Hr₃, HW, HO⟩
  iapply (wp_prod m c (chunk false (h.val + 1) c) shrL (off9_eq c ⟨h.val, hl'⟩) (off10_eq c ⟨h.val, hl'⟩) _ _ _
    (fun j => j = chunk true (h.val + 1) c ∨ Dn c h.val j) (h.val + 2) (h.val + 2)) $$ [Hl₃ HW HO]
  · isplitr; · iexact HR
    isplitl [Hl₃]; · iexact Hl₃
    isplitl [HW]; · iexact HW
    iexact HO
  iintro ⟨Hl₃, HW, HO⟩
  iapply (wp_waitR m c (⟨h.val + 1, hr⟩ : Fin 8) (h.val + 2) (fun j h _ => h)) $$ [Hwr Hcr HO]
  · isplitr; · iexact HR
    isplitl [Hwr]; · iexact Hwr
    isplitl [Hcr]; · iexact Hcr
    iexact HO
  iintro ⟨HO, Hzr, Hr₁, Hnr⟩
  iapply (wp_waitL m c (⟨h.val + 1, hl⟩ : Fin 7) (h.val + 2) (fun j h _ => h)) $$ [Hwl Hcl HO]
  · isplitr; · iexact HR
    isplitl [Hwl]; · iexact Hwl
    isplitl [Hcl]; · iexact Hcl
    iexact HO
  iintro ⟨HO, Hzl, Hl₁, Hnl⟩
  iapply Hk
  isplitl [Hown]; · iexact Hown
  isplitl [HGr HPr Hzr Hr₁ Hr₂ Hr₃ Hnr]
  · iapply (lane_close m true h.val c)
    isplitl [HGr]; · iexact HGr
    isplitl [HPr]; · iexact HPr
    isplitl [Hzr]; · iexact Hzr
    isplitr [Hnr]
    · isplitl [Hr₁]; · iexact Hr₁
      isplitl [Hr₂] <;> iassumption
    iexact Hnr
  isplitl [HGl HPl Hzl Hl₁ Hl₂ Hl₃ Hnl]
  · iapply (lane_close m false h.val c)
    isplitl [HGl]; · iexact HGl
    isplitl [HPl]; · iexact HPl
    isplitl [Hzl]; · iexact Hzl
    isplitr [Hnl]
    · isplitl [Hl₁]; · iexact Hl₁
      isplitl [Hl₂] <;> iassumption
    iexact Hnl
  isplitl [HW]
  · iapply (work_mono m c (D' := Dn c (h.val + 1)) (dn_step c h.val))
    iexact HW
  iexact HO

/-- Hop 7 and the last product. -/
theorem wp_hop7 (c : Dev nD) (Kt : PUnit → sProp 𝕄) :
    iprop(recs m ∗ St m 7 7 (Dn c 6) c)
      ⊢ iprop((St m 8 7 (fun _ => True) c -∗ Kt ⟨⟩) -∗ WP c (hop7 (Memref.whole cc0_stg1_0) c) Kt) := by
  unfold hop7 St compR compL
  simp only [WP_bind]
  iintro ⟨#HR, Hown, HR₀, HL₀, HW, HO⟩ Hk
  ihave HR₀ := (lane_next m (dir := true) (h := 7) (by decide) c) $$ HR₀
  icases HR₀ with ⟨HGr, Hsr, Hwr, HPr⟩
  ihave HGr := (got_succ m true 6 c).1 $$ HGr
  icases HGr with ⟨HGr, Hr⟩
  ihave Hr := (blk_split true c (chunk true 7 c) (agFull m)).1 $$ Hr
  icases Hr with ⟨Hr₁, Hr₂, Hr₃⟩
  ihave HL₀ := (lane_top m false 6 c) $$ HL₀
  icases HL₀ with ⟨Hl, HLk⟩
  iapply (wp_sendR m c (7 : Fin 8) 7) $$ [Hr₁ Hsr HO]
  · isplitr; · iexact HR
    isplitl [Hr₁]; · iexact Hr₁
    isplitl [Hsr]; · iexact Hsr
    iexact HO
  iintro ⟨Hcr, HO⟩
  iapply (wp_prod m c (chunk true 7 c) shrL (off7_eq c 6) (off8_eq c 6) _ _ _ (Dn c 6) 8 7) $$ [Hr₃ HW HO]
  · isplitr; · iexact HR
    isplitl [Hr₃]; · iexact Hr₃
    isplitl [HW]; · iexact HW
    iexact HO
  iintro ⟨Hr₃, HW, HO⟩
  iapply (wp_prod m c (chunk false 7 c) fullShare (off9_eq c 6) (off10_eq c 6) _ _ _ (fun j => j = chunk true 7 c ∨ Dn c 6 j) 8 7) $$ [Hl HW HO]
  · isplitr; · iexact HR
    isplitl [Hl]; · iexact Hl
    isplitl [HW]; · iexact HW
    iexact HO
  iintro ⟨Hl, HW, HO⟩
  iapply (wp_waitR m c (7 : Fin 8) 7 (fun j h h' => absurd h' (Nat.not_lt.mpr h))) $$ [Hwr Hcr HO]
  · isplitr; · iexact HR
    isplitl [Hwr]; · iexact Hwr
    isplitl [Hcr]; · iexact Hcr
    iexact HO
  iintro ⟨HO, Hzr, Hr₁, Hnr⟩
  ihave HRt := (lane_close m true 6 c) $$ [HGr HPr Hzr Hr₁ Hr₂ Hr₃ Hnr]
  · isplitl [HGr]; · iexact HGr
    isplitl [HPr]; · iexact HPr
    isplitl [Hzr]; · iexact Hzr
    isplitr [Hnr]
    · isplitl [Hr₁]; · iexact Hr₁
      isplitl [Hr₂] <;> iassumption
    iexact Hnr
  ihave HRt := (lane_top m true 7 c) $$ HRt
  icases HRt with ⟨Hr, HRk⟩
  ihave HW := (work_mono m c (D' := Dn c 7) (dn_step c 6)) $$ HW
  iapply (wp_prod m c (chunk true 8 c) fullShare (off7_eq c 7) (off8_eq c 7) _ _ _ (Dn c 7) 8 7) $$ [Hr HW HO]
  · isplitr; · iexact HR
    isplitl [Hr]; · iexact Hr
    isplitl [HW]; · iexact HW
    iexact HO
  iintro ⟨Hr, HW, HO⟩
  iapply Hk
  isplitl [Hown]; · iexact Hown
  isplitl [HRk Hr]; · iapply HRk; iexact Hr
  isplitl [HLk Hl]; · iapply HLk; iexact Hl
  isplitl [HW]
  · iapply (work_mono m c (D' := fun _ => True) (fun j _ => dn_all c j))
    iexact HW
  iexact HO

/-! ## The whole body -/

/-- What a device's body starts from besides its buffers. -/
def start (c : Dev nD) : sProp 𝕄 :=
  iprop(recs m ∗ (atPos ER (barCell c) 0 ∅ 0 ∗ dutyTok ER (barCell (nb false c)) 0 true ∗ dutyTok ER (barCell (nb true c)) 0 false
      ∗ cred (tallyAt (barCell c) () 2))
    ∗ (bigSep (Finset.Ico 0 (hops true)) fun j => iprop(dutyTok ER (sCell true j c) 0 false ∗ dutyTok ER (rCell true j (nb true c)) 0 false))
    ∗ (bigSep (Finset.Ico 0 (hops false)) fun j => iprop(dutyTok ER (sCell false j c) 0 false ∗ dutyTok ER (rCell false j (nb false c)) 0 false))
    ∗ (bigSep (Finset.Ico 0 (hops true)) fun j => wtItem true j c)
    ∗ bigSep (Finset.Ico 0 (hops false)) fun j => wtItem false j c)

omit [FloatOps F] in
/-- A lane before the first hop. -/
theorem lane_zero (dir : Bool) (c : Dev nD) :
    iprop((bigSep (Finset.Ico 0 (hops dir)) fun j => iprop(dutyTok ER (sCell dir j c) 0 false ∗ dutyTok ER (rCell dir j (nb dir c)) 0 false))
        ∗ barPay dir c ∗ bigSep (Finset.Ico 0 (hops dir)) fun j => wtItem dir j c) ⊢ Lane (F := F) m dir 0 c := by
  unfold Lane Got barPay sndItem
  rw [Finset.Ico_self, bigSep_empty, bigSep_empty, bigSep_sep' (Finset.Ico 0 (hops dir))
    (fun j => iprop(∃ f, blkPts (F := F) (nb dir c) (chunk dir j c) fullShare f))]
  iintro ⟨Ht, Hb, Hw⟩
  isplitr; · iempintro
  isplitl [Ht Hb]; · isplitl [Hb] <;> iassumption
  isplitl [Hw]; · iexact Hw
  iempintro

/-- Asking for the device's number goes on with it. -/
theorem WP_deviceId (c : Dev nD) (k : Dev nD → P (F := F) PUnit) (Q : PUnit → sProp 𝕄) :
    WP c (Prog.lift .deviceId >>= k) Q = WP c (k c) Q := by
  unfold WP
  simp only [Prog.lift, Prog.bind_op, Prog.bind_ret, wp_deviceId]

/-- The body of one device. -/
theorem wp_body (c : Dev nD) (Kt : PUnit → sProp 𝕄) :
    iprop(start m c ∗ debt c (O₀ c) ∗ aPts m c ∗ (∃ f, gathPts c f) ∗ Work m c (fun _ => False))
      ⊢ iprop(((aPts m c ∗ semVal (barCell c) 0 ∗ St m 8 7 (fun _ => True) c) -∗ Kt ⟨⟩)
          -∗ WP c (tidy (Memref.whole cc0_stg0_0) (Memref.whole cc0_stg1_0)) Kt) := by
  unfold tidy start
  rw [WP_deviceId]
  simp only [WP_bind]
  iintro ⟨⟨#HR, ⟨Hat, Ht₁, Ht₂, Hc⟩, Htr, Htl, Hwr, Hwl⟩, HO, HA, Hg, HW⟩ Hk
  iapply (wp_start m c) $$ [Hat Ht₁ Ht₂ Hc HO HA Hg]
  · isplitr; · iexact HR
    isplitl [Hat]; · iexact Hat
    isplitl [Ht₁]; · iexact Ht₁
    isplitl [Ht₂]; · iexact Ht₂
    isplitl [Hc]; · iexact Hc
    isplitl [HO]; · iexact HO
    isplitl [HA] <;> iassumption
  iintro ⟨HO, Hz, Hpr, Hpl, HA, Hown⟩
  ihave HR₀ := (lane_zero m true c) $$ [Htr Hpr Hwr]
  · isplitl [Htr]; · iexact Htr
    isplitl [Hpr] <;> iassumption
  ihave HL₀ := (lane_zero m false c) $$ [Htl Hpl Hwl]
  · isplitl [Htl]; · iexact Htl
    isplitl [Hpl] <;> iassumption
  iapply (wp_hop0 m c) $$ [Hown HR₀ HL₀ HW HO]
  · isplitr; · iexact HR
    unfold St
    isplitl [Hown]; · iexact Hown
    isplitl [HR₀]; · iexact HR₀
    isplitl [HL₀]; · iexact HL₀
    isplitl [HW] <;> iassumption
  iintro HS
  iapply (wp_hopS m c 0) $$ [HS]; · isplitr; · iexact HR
                                    iexact HS
  iintro HS
  iapply (wp_hopS m c 1) $$ [HS]; · isplitr; · iexact HR
                                    iexact HS
  iintro HS
  iapply (wp_hopS m c 2) $$ [HS]; · isplitr; · iexact HR
                                    iexact HS
  iintro HS
  iapply (wp_hopS m c 3) $$ [HS]; · isplitr; · iexact HR
                                    iexact HS
  iintro HS
  iapply (wp_hopS m c 4) $$ [HS]; · isplitr; · iexact HR
                                    iexact HS
  iintro HS
  iapply (wp_hopS m c 5) $$ [HS]; · isplitr; · iexact HR
                                    iexact HS
  iintro HS
  iapply (wp_hop7 m c) $$ [HS]; · isplitr; · iexact HR
                                  iexact HS
  iintro HS
  iapply Hk
  isplitl [HA]; · iexact HA
  isplitl [Hz] <;> iassumption

end Cert.KernelIdeal.Hand

end
-- ==== Proof.KernelIdealData.lean ====
/- What one device holds before and after its body, and that the body takes the one to the other. -/
module

public import proofs.«01_k».proof.Proof.KernelIdealBody
public import proofs.«01_k».proof.Proof.Gen.KernelIdeal.Frame

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Ring Cert.Rows

variable {F : FTy → Type} [FloatOps F]

local notation "𝕄" => MT nD τ sig Unit (Elt F) ℕ UU ℕ

variable (m : (ℓ : Loc nD τ sig) → Buf (Elt F) ℓ) (ρ : Dev nD → PrngReg)

/-- What a device holds before its body besides the staged operands: its part of the ring's ghost state, the
    two scratch buffers, the copies' semaphore at zero, the result's buffer. -/
def Φ₀ (c : Dev nD) : sProp 𝕄 :=
  iprop(start m c ∗ (∃ f, gathPts c f) ∗ tmpPts c ∗ semVal (dmaCell c (32 : Fin 33)) 0 ∗ outDone m c fun _ => False)

/-- What it holds after it: every semaphore at zero, the gathered operand in blocks, the other scratch buffer,
    the whole result. -/
def Φ₁ (c : Dev nD) : sProp 𝕄 :=
  iprop(semVal (barCell c) 0 ∗ (blkPts c c fullShare (agFull m) ∗ Lane m true 8 c ∗ Lane m false 7 c)
    ∗ tmpPts c ∗ semVal (dmaCell c (32 : Fin 33)) 0 ∗ outDone m c fun _ => True)

/-- The body's contract. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aBlk m c
    | ⟨1, _⟩ => bMat m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- A buffer held whole at known contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt () t0_0.succ ∗ stg c cc0_stg0_0 (aBlk m c) ∗ stg c cc0_stg1_0 (bMat m c))

/-- The left operand is staged when the body starts; -/
theorem before_a (c : Dev nD) (d) : (dats m ρ 0 c).before (0 : Fin 2) t0_0 d = aBlk m c := by
  unfold Dat.before; rw [if_pos (fetch0_0 t0_0)]
  have h : (win0_0.rect t0_0).off = fun _ => 0 := by funext a; fin_cases a <;> rfl
  exact (show (dats m ρ 0 c).fetched 0 t0_0 d = (win0_0.blk t0_0).view.read (Elt F) (aBlk m c) from rfl).trans
    (Memref.read_access_unit_zero (Elt F) main_arg0 (off := (win0_0.rect t0_0).off) h (fun a => by rw [h]; exact (Nat.zero_add _).le) (aBlk m c))
/-- so is the right one. -/
theorem before_b (c : Dev nD) (d) : (dats m ρ 0 c).before (1 : Fin 2) t0_0 d = bMat m c := by
  unfold Dat.before; rw [if_pos (fetch0_1 t0_0)]
  have h : (win0_1.rect t0_0).off = fun _ => 0 := by funext a; fin_cases a <;> rfl
  exact (show (dats m ρ 0 c).fetched 1 t0_0 d = (win0_1.blk t0_0).view.read (Elt F) (bMat m c) from rfl).trans
    (Memref.read_access_unit_zero (Elt F) main_arg1 (off := (win0_1.rect t0_0).off) h (fun a => by rw [h]; exact (Nat.zero_add _).le) (bMat m c))

set_option maxRecDepth 65536 in
/-- The body keeps its contract. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c
    (cc0_body (F := F) (Memref.whole cc0_stg0_0) (Memref.isWhole_whole _) (Memref.whole cc0_stg1_0) (Memref.isWhole_whole _)
      (Memref.whole main_v1) (Memref.isWhole_whole _) (Memref.whole cc0_scratch0) (Memref.isWhole_whole _)
      (Memref.whole cc0_scratch1) (Memref.isWhole_whole _) cc0_scratch2 cc0_scratch3 cc0_scratch4 cc0_scratch5 cc0_scratch6)
    (fun _ => bodyPost m ρ c)
  rw [body_eq]
  unfold bodyPre Φ₀
  simp only [before_a, before_b]
  unfold Dat.owesAt Pipeline.owesWithin
  rw [show (dats m ρ 0 c).owed t0_0.castSucc = O₀ c from rfl]
  iintro ⟨⟨Hs, Hg, Ht, Hz, Hout⟩, ⟨%W, %hW, HO⟩, ⟨%d0, %g0, %hg0, HA⟩, ⟨%d1, %g1, %hg1, HB⟩⟩
  subst hg0 hg1
  iapply (wp_body m c fun _ => bodyPost m ρ c) $$ [Hs Hg Ht Hz Hout HO HA HB]
  · isplitl [Hs]; · iexact Hs
    isplitl [HO]; · (unfold debt; iexists W; iexact HO)
    isplitl [HA]; · (unfold aPts; iexact HA)
    isplitl [Hg]; · iexact Hg
    unfold Work
    isplitl [HB]; · (unfold bPts; iexact HB)
    isplitl [Ht]; · iexact Ht
    isplitl [Hz]; · iexact Hz
    iexact Hout
  unfold St Work
  rw [oat_done]
  iintro ⟨HA, Hbar, Hown, HR, HL, ⟨HB, Ht, Hz, Hout⟩, HO⟩
  unfold bodyPost Φ₁ debt Dat.owesAt Pipeline.owesWithin
  icases HO with ⟨%W', HO⟩
  rw [show (dats m ρ 0 c).owed t0_0.succ = 0 from rfl]
  isplitl [Hbar Hown HR HL Ht Hz Hout]
  · isplitl [Hbar]; · iexact Hbar
    isplitl [Hown HR HL]
    · isplitl [Hown]; · iexact Hown
      isplitl [HR]; · iexact HR
      iexact HL
    isplitl [Ht]; · iexact Ht
    isplitl [Hz]; · iexact Hz
    iexact Hout
  isplitl [HO]
  · iexists W'
    isplitr; · ipureintro; exact fun _ _ => Or.inl trivial
    iexact HO
  isplitl [HA]
  · iexists _; isplitr; · (ipureintro; rfl)
    unfold aPts; iexact HA
  iexists _; isplitr; · (ipureintro; rfl)
  unfold bPts; iexact HB

/-! ## The pipeline's side conditions -/

theorem share_eq (c : Dev nD) (w : Fin cfg0.W) : (dats m ρ 0 c).share w = fullShare := by unfold Dat.share; split <;> rfl

/-- The staging waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.KernelIdeal.Hand

end
-- ==== Proof.KernelIdealDeal.lean ====
/- How the launch deals the transfers' ghost state to the devices. -/
module

public import proofs.«01_k».proof.Proof.KernelIdealData

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Ring Cert.Rows

variable {F : FTy → Type} [FloatOps F]

local notation "𝕄" => MT nD τ sig Unit (Elt F) ℕ UU ℕ

variable (m : (ℓ : Loc nD τ sig) → Buf (Elt F) ℓ) (ρ : Dev nD → PrngReg)

/-! ## The cells and their duty tokens -/

theorem barCell_injective : Function.Injective (barCell : Dev nD → GSem nD τ sig) :=
  fun a b h => congrArg (fun g : GSem nD τ sig => g.1.1) h

abbrev dCell (cj : Dev nD × Fin 30) : GSem nD τ sig := dmaCell cj.1 (num cj.2)

theorem dCell_injective : Function.Injective dCell := by
  rintro ⟨c, j⟩ ⟨c', j'⟩ h
  have h1 : c = c' := congrArg (fun g : GSem nD τ sig => g.1.1) h
  have h2 : num j = num j' := SemLoc.dma.inj (congrArg Prod.snd h)
  rw [h1, num_injective h2]

theorem bar_ne_dma (c c' : Dev nD) (s : DmaSem sig) : barCell c ≠ dmaCell c' s :=
  fun h => by have h' : SemLoc.reg barSem = SemLoc.dma s := congrArg Prod.snd h
              cases h'

def barCells : Finset (GSem nD τ sig) := Finset.univ.map ⟨barCell, barCell_injective⟩
def dmaCells : Finset (GSem nD τ sig) := Finset.univ.map ⟨dCell, dCell_injective⟩

theorem cells_disjoint : Disjoint barCells dmaCells := by
  rw [Finset.disjoint_left]
  intro g h h'
  obtain ⟨c, -, rfl⟩ := Finset.mem_map.mp h
  obtain ⟨cj, -, e⟩ := Finset.mem_map.mp h'
  exact bar_ne_dma c cj.1 (num cj.2) e.symm

/-- The cells that follow the schedule: every barrier and every transfer semaphore. -/
def ringCells : Finset (GSem nD τ sig) := barCells ∪ dmaCells

abbrev barTok (cd : Dev nD × Bool) : GSem nD τ sig × ℕ × Bool := (barCell cd.1, 0, cd.2)
abbrev dmaTok (cj : Dev nD × Fin 30) : GSem nD τ sig × ℕ × Bool := (dCell cj, 0, false)

theorem barTok_injective : Function.Injective barTok := by
  rintro ⟨c, d⟩ ⟨c', d'⟩ h
  have h1 : c = c' := congrArg (fun x : GSem nD τ sig × ℕ × Bool => x.1.1.1) h
  have h2 : d = d' := congrArg (fun x : GSem nD τ sig × ℕ × Bool => x.2.2) h
  rw [h1, h2]
theorem dmaTok_injective : Function.Injective dmaTok :=
  fun a b h => dCell_injective (congrArg (fun x : GSem nD τ sig × ℕ × Bool => x.1) h)

def barToks : Finset (GSem nD τ sig × ℕ × Bool) := Finset.univ.map ⟨barTok, barTok_injective⟩
def dmaToks : Finset (GSem nD τ sig × ℕ × Bool) := Finset.univ.map ⟨dmaTok, dmaTok_injective⟩

theorem toks_disjoint : Disjoint barToks dmaToks := by
  rw [Finset.disjoint_left]
  intro g h h'
  obtain ⟨c, -, rfl⟩ := Finset.mem_map.mp h
  obtain ⟨cj, -, e⟩ := Finset.mem_map.mp h'
  exact bar_ne_dma c.1 cj.1 (num cj.2) (congrArg (fun x : GSem nD τ sig × ℕ × Bool => x.1) e).symm

def ringToks : Finset (GSem nD τ sig × ℕ × Bool) := barToks ∪ dmaToks

/-- The ghost state at launch. -/
def u₀ : UU :=
  (initOf (Pipeline.cells cfgs cellOf_inj) (Pipeline.launchToks cfgs cellOf_inj), (initOf ringCells ringToks, 1))

/-- A family over device `c`'s cells. -/
def own (Φ : GSem nD τ sig → sProp 𝕄) (c : Dev nD) : sProp 𝕄 :=
  iprop(Φ (barCell c) ∗ bigSep Finset.univ fun j : Fin 30 => Φ (dmaCell c (num j)))

omit [FloatOps F] in
theorem own_sep (Φ Ψ : GSem nD τ sig → sProp 𝕄) (c : Dev nD) :
    iprop(own Φ c ∗ own Ψ c) ⊢ own (fun g => iprop(Φ g ∗ Ψ g)) c := by
  unfold own
  rw [bigSep_sep']
  iintro ⟨⟨H1, H2⟩, H3, H4⟩
  isplitl [H1 H3]; · isplitl [H1] <;> iassumption
  isplitl [H2] <;> iassumption

omit [FloatOps F] in
theorem bigSep_cells (Φ : GSem nD τ sig → sProp 𝕄) : bigSep ringCells Φ = bigSep Finset.univ fun c : Dev nD => own Φ c := by
  unfold ringCells own
  rw [bigSep_union cells_disjoint, bigSep_sep']
  unfold barCells dmaCells
  rw [bigSep_map, bigSep_map, bigSep_univ_prod]
  rfl

/-- The duty tokens of device `c`'s own cells. -/
def toks (c : Dev nD) : sProp 𝕄 :=
  iprop((dutyTok ER (barCell c) 0 true ∗ dutyTok ER (barCell c) 0 false)
    ∗ bigSep Finset.univ fun j : Fin 30 => dutyTok ER (dmaCell c (num j)) 0 false)

omit [FloatOps F] in
theorem bigSep_toks : bigSep ringToks (fun x => (dutyTok ER x.1 x.2.1 x.2.2 : sProp 𝕄)) = bigSep Finset.univ fun c : Dev nD => toks c := by
  unfold ringToks toks
  rw [bigSep_union toks_disjoint, bigSep_sep']
  unfold barToks dmaToks
  rw [bigSep_map, bigSep_map, bigSep_univ_prod, bigSep_univ_prod]
  congr 1
  exact bigSep_congr fun c _ => by
    rw [bigSep_univ_eq_bigSepL [true, false] (by decide) (by decide), bigSepL_cons_cons, bigSepL_singleton]; rfl

/-- What the launch deals device `c`. -/
def G (c : Dev nD) : sProp 𝕄 :=
  iprop(own (fun g => roundState ER (ringRd m) g 0) c ∗ own (fun g => reached ER g 0) c ∗ own (fun g => atPos ER g 0 ∅ 0) c ∗ toks c)

omit [FloatOps F] in
theorem fund_ring : BI.own (ER (initOf ringCells ringToks)) ⊢ (|==> bigSep Finset.univ (G m) : sProp 𝕄) := by
  iintro HX
  imod (Rounds.fund ER (ringRd m) ringCells ringToks) $$ HX with ⟨Hst, Hr, Hat, Htok⟩
  imodintro
  ihave Hst := (Entails.of_eq (bigSep_cells fun g => roundState ER (ringRd m) g 0)) $$ Hst
  ihave Hat := (Entails.of_eq (bigSep_cells fun g => atPos ER g 0 ∅ 0)) $$ Hat
  ihave Hr := (Entails.of_eq (bigSep_cells fun g => reached ER g 0)) $$ Hr
  ihave Htok := (Entails.of_eq bigSep_toks) $$ Htok
  unfold G; simp only [bigSep_sep']
  isplitl [Hst]; · iexact Hst
  isplitl [Hr]; · iexact Hr
  isplitl [Hat]; · iexact Hat
  iexact Htok

/-! ## The semaphores -/

/-- The kernel's own semaphores: the thirty of the transfers and the copies'. -/
abbrev osem (k : Fin 31) : SemLoc sig := .dma (⟨k.val + 2, Nat.add_lt_add_right k.isLt 2⟩ : Fin 33)

theorem ownSemFacts : Pipeline.OwnSemFacts cfg0.spec osem := by decide

omit [FloatOps F] in
theorem ownSems0_eq (c : Dev nD) : (Pipeline.ownSems0 (Ix := Unit) (Name := ℕ) (U := UU) (Lvl := ℕ) (Val := Elt F) (τ := τ) osem c : sProp 𝕄)
    = iprop(semVal (dmaCell c (32 : Fin 33)) 0 ∗ bigSep Finset.univ fun j : Fin 30 => semVal (dmaCell c (num j)) 0) := by
  unfold Pipeline.ownSems0
  rw [show (Finset.univ : Finset (Fin 31)) = insert (Fin.last 30) (Finset.univ.image (Fin.castSucc : Fin 30 → Fin 31)) by decide,
    bigSep_insert (by decide), bigSep_image_of_injOn (fun a _ b _ h => Fin.castSucc_injective 30 h)]
  rfl

omit [FloatOps F] in
/-- The barrier is the one semaphore not the kernel's own. -/
theorem unscopedSems0_eq (c : Dev nD) : (unscopedSems0 c : sProp 𝕄) = semVal (barCell c) 0 := by
  unfold unscopedSems0; rw [bigSep_eq_bigSepL_of_eq [SemLoc.reg barSem] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop(own (fun g => semVal g 0) c ∗ semVal (dmaCell c (32 : Fin 33)) 0) : sProp 𝕄) := by
  rw [ownSems0_eq, unscopedSems0_eq]
  unfold own
  iintro ⟨⟨Hz, HS⟩, HB⟩
  isplitl [HB HS]; · isplitl [HB] <;> iassumption
  iexact Hz

/-! ## Opening the cells -/

omit [FloatOps F] in
theorem cell_alloc (g : GSem nD τ sig) :
    iprop((semVal g 0 ∗ roundState ER (ringRd m) g 0) ∗ reached ER g 0) ⊢ |={Set.univ}=> known (F := F) m g := by
  unfold known
  iintro ⟨Hv, Hr⟩
  imod ((Rounds.body_intro ER (ringRd m) g).trans inv_alloc) $$ Hv with ⟨%κ, HI⟩
  imodintro
  iexists κ
  isplitl [HI] <;> iassumption

omit [FloatOps F] in
theorem own_alloc (c : Dev nD) :
    own (fun g => iprop((semVal g 0 ∗ roundState ER (ringRd m) g 0) ∗ reached ER g 0)) c ⊢ |={Set.univ}=> own (known (F := F) m) c := by
  unfold own
  have h : (bigSep Finset.univ fun j : Fin 30 => iprop((semVal (dmaCell c (num j)) 0 ∗ roundState ER (ringRd m) (dmaCell c (num j)) 0) ∗ reached ER (dmaCell c (num j)) 0))
      ⊢ |={Set.univ}=> bigSep Finset.univ fun j : Fin 30 => known (F := F) m (dmaCell c (num j)) :=
    (bigSep_mono fun j _ => cell_alloc m (dmaCell c (num j))).trans (bigSep_fupd _ _)
  iintro ⟨H1, H2⟩
  imod (cell_alloc m (barCell c)) $$ H1 with H1
  imod h $$ H2 with H2
  imodintro
  isplitl [H1] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(own (known m) c ∗ (own (fun g => atPos ER g 0 ∅ 0) c ∗ toks c ∗ semVal (dmaCell c (32 : Fin 33)) 0)) := by
  unfold G
  iintro ⟨Hos, Hus, Hst, Hr, Hat, Htok⟩
  ihave Hv := (sems0_eq (F := F) c) $$ [Hos Hus]
  · isplitl [Hos] <;> iassumption
  icases Hv with ⟨Hv, Hz⟩
  ihave H := (own_sep (fun g => semVal g 0) (fun g => roundState ER (ringRd m) g 0) c) $$ [Hv Hst]
  · isplitl [Hv] <;> iassumption
  ihave H := (own_sep (fun g => iprop(semVal g 0 ∗ roundState ER (ringRd m) g 0)) (fun g => reached ER g 0) c) $$ [H Hr]
  · isplitl [H] <;> iassumption
  imod (own_alloc m c) $$ H with HK
  imodintro
  isplitl [HK]; · iexact HK
  isplitl [Hat]; · iexact Hat
  isplitl [Htok] <;> iassumption

/-! ## Dealing around the ring -/

/-- The tokens of the duties device `c` pays. -/
def payToks (c : Dev nD) : sProp 𝕄 :=
  iprop((dutyTok ER (barCell (nb false c)) 0 true ∗ dutyTok ER (barCell (nb true c)) 0 false)
    ∗ (bigSep (Finset.Ico 0 (hops true)) fun j => iprop(dutyTok ER (sCell true j c) 0 false ∗ dutyTok ER (rCell true j (nb true c)) 0 false))
    ∗ bigSep (Finset.Ico 0 (hops false)) fun j => iprop(dutyTok ER (sCell false j c) 0 false ∗ dutyTok ER (rCell false j (nb false c)) 0 false))

omit [FloatOps F] in
theorem toks_around : (bigSep Finset.univ fun c : Dev nD => (toks (F := F) c : sProp 𝕄)) ⊢ bigSep Finset.univ fun c : Dev nD => payToks c := by
  have e : (bigSep Finset.univ fun c : Dev nD => (toks (F := F) c : sProp 𝕄))
      = iprop(((bigSep Finset.univ fun c : Dev nD => dutyTok ER (barCell c) 0 true) ∗ bigSep Finset.univ fun c : Dev nD => dutyTok ER (barCell c) 0 false)
        ∗ (bigSep Finset.univ fun c : Dev nD => bigSep (Finset.Ico 0 (hops true)) fun j => dutyTok ER (sCell true j c) 0 false)
        ∗ (bigSep Finset.univ fun c : Dev nD => bigSep (Finset.Ico 0 (hops true)) fun j => dutyTok ER (rCell true j c) 0 false)
        ∗ (bigSep Finset.univ fun c : Dev nD => bigSep (Finset.Ico 0 (hops false)) fun j => dutyTok ER (sCell false j c) 0 false)
        ∗ bigSep Finset.univ fun c : Dev nD => bigSep (Finset.Ico 0 (hops false)) fun j => dutyTok ER (rCell false j c) 0 false) := by
    rw [← bigSep_sep', ← bigSep_sep', ← bigSep_sep', ← bigSep_sep', ← bigSep_sep']
    exact bigSep_congr fun c _ => by
      unfold toks
      rw [bigSep_num fun s => dutyTok ER (dmaCell c s) 0 false]
  rw [e]
  unfold payToks
  simp only [bigSep_sep']
  rw [bigSep_univ_equiv (nbEquiv false) (fun c : Dev nD => (dutyTok ER (barCell c) 0 true : sProp 𝕄)),
    bigSep_univ_equiv (nbEquiv true) (fun c : Dev nD => (dutyTok ER (barCell c) 0 false : sProp 𝕄)),
    bigSep_univ_equiv (nbEquiv true) (fun c : Dev nD => (bigSep (Finset.Ico 0 (hops true)) fun j => dutyTok ER (rCell true j c) 0 false : sProp 𝕄)),
    bigSep_univ_equiv (nbEquiv false) (fun c : Dev nD => (bigSep (Finset.Ico 0 (hops false)) fun j => dutyTok ER (rCell false j c) 0 false : sProp 𝕄))]
  iintro ⟨⟨H1, H2⟩, H3, H4, H5, H6⟩
  isplitl [H1 H2]
  · isplitl [H1]; · iexact H1
    iexact H2
  isplitl [H3 H4]
  · isplitl [H3]; · iexact H3
    iexact H4
  isplitl [H5]; · iexact H5
  iexact H6

/-- The facts every device may use but for the levels. -/
def facts : sProp 𝕄 :=
  iprop((bigSep Finset.univ fun c : Dev nD => known m (barCell c))
    ∗ bigSep Finset.univ fun cj : Dev nD × Fin 30 => known m (dmaCell cj.1 (num cj.2)))

instance facts_persistent : BI.Persistent (facts (F := F) m) := by unfold facts; infer_instance

/-- What is device `c`'s alone: its positions, the tokens it pays with, the copies' semaphore at zero. -/
def mine (c : Dev nD) : sProp 𝕄 :=
  iprop(own (fun g => atPos ER g 0 ∅ 0) c ∗ payToks c ∗ semVal (dmaCell c (32 : Fin 33)) 0)

/-- What the launch leaves device `c`. -/
def G' (c : Dev nD) : sProp 𝕄 := iprop(facts m ∗ mine c)

omit [FloatOps F] in
theorem deal : (bigSep Finset.univ fun c : Dev nD => iprop(own (known m) c ∗ (own (fun g => atPos ER g 0 ∅ 0) c ∗ toks c ∗ semVal (dmaCell c (32 : Fin 33)) 0)))
    ⊢ (bigSep Finset.univ (G' (F := F) m) : sProp 𝕄) := by
  have hF : (bigSep Finset.univ fun c : Dev nD => own (known (F := F) m) c) ⊢ facts m := by
    unfold facts own
    rw [bigSep_sep', bigSep_univ_prod]
  unfold G'
  rw [bigSep_sep' Finset.univ (fun c : Dev nD => own (known m) c), bigSep_sep' Finset.univ (fun _ : Dev nD => facts m)]
  iintro ⟨HK, HR⟩
  isplitl [HK]
  · iapply (hF.trans (BI.bigSep_of_persistent Finset.univ (facts m)))
    iexact HK
  unfold mine
  simp only [bigSep_sep']
  icases HR with ⟨Hat, Htok, Hz⟩
  isplitl [Hat]; · iexact Hat
  isplitl [Htok]; · (iapply (toks_around (F := F)); iexact Htok)
  iexact Hz

omit [FloatOps F] in
/-- The launch's global step: every device's cells opened, and what they are worth dealt around. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (deal m))

end Cert.KernelIdeal.Hand

end
-- ==== Proof.KernelIdealLaunch.lean ====
/- The run of the whole program: every device ends with the whole result, its operands as they were and every
   semaphore at zero. -/
module

public import proofs.«01_k».proof.Proof.KernelIdealDeal
public import Idealize.ShloMosaic.Lib.Pipeline.CollectiveSegs
public import Idealize.ShloMosaic.Lib.Quiescent

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Ring Cert.Rows

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

theorem bar_inj {a b : Dev nD} (h : barCell a = barCell b) : a = b := barCell_injective h

/-- A receive cell is one device's, one direction's and one hop's. -/
theorem rCell_inj {dir dir' : Bool} {h h' : ℕ} (hh : h < hops dir) (hh' : h' < hops dir') {a b : Dev nD}
    (e : rCell dir h a = rCell dir' h' b) : dir = dir' ∧ h = h' ∧ a = b := by
  have h1 : a = b := congrArg (fun g : GSem nD τ sig => g.1.1) e
  have h2 : rNum dir h = rNum dir' h' := SemLoc.dma.inj (congrArg Prod.snd e)
  have h3 := congrArg role h2
  rw [role_rNum hh, role_rNum hh'] at h3
  simp only [Option.some.injEq, Prod.mk.injEq, true_and] at h3
  exact ⟨h3.1, h3.2, h1⟩

/-- What device `d` owes a receive cell in a direction: one block, if the cell is its neighbour's in that direction. -/
theorem owe_recv {dir dir' : Bool} {h : ℕ} (hh : h < hops dir) (d c : Dev nD) :
    Owe dir' 0 d (rCell dir h c) () = if dir' = dir ∧ d = nb (!dir) c then N else 0 := by
  by_cases hd : dir' = dir ∧ d = nb (!dir) c
  · obtain ⟨rfl, rfl⟩ := hd
    rw [if_pos ⟨rfl, rfl⟩]
    unfold Owe
    rw [Finset.sum_apply, Finsupp.finset_sum_apply, Finset.sum_eq_single h, tallyAt_apply, nb_nb', if_pos ⟨rfl, rfl⟩]
    · intro j hj hne
      rw [tallyAt_apply]
      exact if_neg fun e => hne (rCell_inj hh (Finset.mem_Ico.mp hj).2 e.1).2.1.symm
    · exact fun hn => absurd (Finset.mem_Ico.mpr ⟨Nat.zero_le _, hh⟩) hn
  · rw [if_neg hd]
    by_contra hp
    obtain ⟨j, -, hj, e⟩ := owe_pos (Nat.pos_of_ne_zero hp)
    obtain ⟨rfl, -, rfl⟩ := rCell_inj hh hj e
    exact hd ⟨rfl, (nb_nb dir d).symm⟩

theorem owed_recv {dir : Bool} {h : ℕ} (hh : h < hops dir) (d c : Dev nD) :
    O₀ d (rCell dir h c) () = if d = nb (!dir) c then N else 0 := by
  unfold O₀ O₁ Oat
  rw [Pi.add_apply, Finsupp.add_apply, Pi.add_apply, Finsupp.add_apply, Pi.add_apply, Finsupp.add_apply,
    tallyAt_ne_cell (fun e => bar_ne_dma _ _ _ e.symm), tallyAt_ne_cell (fun e => bar_ne_dma _ _ _ e.symm), owe_recv hh, owe_recv hh,
    Finsupp.zero_apply, Nat.add_zero, Nat.add_zero]
  cases dir <;> simp

theorem owe_bar (dir : Bool) (d c : Dev nD) : Owe dir 0 d (barCell c) () = 0 := by
  by_contra hp
  obtain ⟨j, -, hj, e⟩ := owe_pos (Nat.pos_of_ne_zero hp)
  exact bar_ne_dma _ _ _ e

/-- What device `d` owes a barrier cell: a unit to either neighbour's. -/
theorem owed_bar (d c : Dev nD) : O₀ d (barCell c) () = (if d = nb false c then 1 else 0) + (if d = nb true c then 1 else 0) := by
  have k (dir : Bool) : (tallyAt (barCell (nb (!dir) d)) () 1 : CellTallies nD τ sig Unit) (barCell c) () = if d = nb dir c then 1 else 0 := by
    rw [tallyAt_apply]
    by_cases h : d = nb dir c
    · subst h; rw [nb_nb, if_pos ⟨rfl, rfl⟩, if_pos rfl]
    · rw [if_neg h]; exact if_neg fun e => h (by rw [bar_inj e.1, nb_nb'])
  unfold O₀ O₁ Oat
  rw [Pi.add_apply, Finsupp.add_apply, Pi.add_apply, Finsupp.add_apply, Pi.add_apply, Finsupp.add_apply, owe_bar, owe_bar,
    show (tallyAt (barCell (nb true d)) () 1 : CellTallies nD τ sig Unit) (barCell c) () = if d = nb false c then 1 else 0 from k false,
    show (tallyAt (barCell (nb false d)) () 1 : CellTallies nD τ sig Unit) (barCell c) () = if d = nb true c then 1 else 0 from k true]
  simp

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb false c) fun _ => 1, Finset.sum_ite_eq' Finset.univ (nb true c) fun _ => 1, if_pos (Finset.mem_univ _), if_pos (Finset.mem_univ _)]

theorem launch_recv {dir : Bool} {h : ℕ} (hh : h < hops dir) (c : Dev nD) :
    tallyOn (rCell dir h c) (launchCredit (Pipeline.owing O₀) 0 (rCell dir h c)) = (tallyAt (rCell dir h c) () N : CellTallies nD τ sig Unit) := by
  unfold tallyAt; refine congrArg _ (Finsupp.ext fun u => ?_); cases u
  rw [Pipeline.launchCredit_owing, Finsupp.single_eq_same, Finset.sum_congr rfl fun d _ => owed_recv hh d c,
    Finset.sum_ite_eq' Finset.univ (nb (!dir) c) fun _ => N, if_pos (Finset.mem_univ _)]

/-- A direction's credits. -/
def creds (dir : Bool) (c : Dev nD) : sProp 𝕄 := bigSep (Finset.Ico 0 (hops dir)) fun j => cred (tallyAt (rCell dir j c) () N)

/-- What the launch credits device `c` with on a semaphore. -/
def given (c : Dev nD) (sm : SemLoc sig) : sProp 𝕄 :=
  cred (tallyOn ((c : Thread nD τ), sm) (launchCredit (Pipeline.owing O₀) 0 ((c : Thread nD τ), sm)))

omit [FloatOps F] in
theorem given_recv (dir : Bool) (c : Dev nD) :
    (bigSep (Finset.Ico 0 (hops dir)) fun j => given (F := F) c (.dma (rNum dir j))) = creds dir c := by
  unfold creds given
  exact bigSep_congr fun j hj => congrArg _ (launch_recv (Finset.mem_Ico.mp hj).2 c)

omit [FloatOps F] in
theorem given_dma (c : Dev nD) :
    (bigSep (Finset.univ.erase (SemLoc.reg barSem)) fun sm => given (F := F) c sm) ⊢ bigSep Finset.univ fun j : Fin 30 => given c (.dma (num j)) := by
  have inj : Set.InjOn (fun j : Fin 30 => (SemLoc.dma (num j) : SemLoc sig)) (Finset.univ : Finset (Fin 30)) := fun a _ b _ h =>
    num_injective (SemLoc.dma.inj h)
  rw [← bigSep_image_of_injOn inj (fun sm => given (F := F) c sm)]
  refine bigSep_subset fun s hs => ?_
  obtain ⟨j, -, rfl⟩ := Finset.mem_image.mp hs
  exact Finset.mem_erase.mpr ⟨fun h => (by cases h), Finset.mem_univ _⟩

omit [FloatOps F] in
/-- The credit the launch gives device `c`: two units for its barrier, a block for every receive cell. -/
theorem creds_intro (c : Dev nD) :
    (Pipeline.launchCred O₀ c : sProp 𝕄) ⊢ iprop(cred (tallyAt (barCell c) () 2) ∗ creds true c ∗ creds false c) := by
  have h : (Pipeline.launchCred O₀ c : sProp 𝕄) = iprop(cred (tallyAt (barCell c) () 2) ∗ bigSep (Finset.univ.erase (SemLoc.reg barSem)) fun sm => given c sm) := by
    unfold Pipeline.launchCred
    rw [bigSep_univ_at _ (SemLoc.reg barSem), launch_bar]
    rfl
  rw [h]
  iintro ⟨Hb, Hr⟩
  isplitl [Hb]; · iexact Hb
  ihave Hr := ((given_dma (F := F) c).trans (Entails.of_eq (bigSep_num fun s => given c (.dma s)))) $$ Hr
  icases Hr with ⟨-, H₁, -, H₂⟩
  ihave H₁ := (Entails.of_eq (given_recv (F := F) true c)) $$ H₁
  ihave H₂ := (Entails.of_eq (given_recv (F := F) false c)) $$ H₂
  isplitl [H₁] <;> iassumption

/-! ## The region's two ends -/

omit [FloatOps F] in
/-- A direction's positions and credits, hop by hop. -/
theorem wt_intro (dir : Bool) (c : Dev nD) :
    iprop((bigSep (Finset.Ico 0 (hops dir)) fun j => (atPos ER (sCell dir j c) 0 ∅ 0 : sProp 𝕄))
      ∗ (bigSep (Finset.Ico 0 (hops dir)) fun j => atPos ER (rCell dir j c) 0 ∅ 0) ∗ creds dir c)
      ⊢ bigSep (Finset.Ico 0 (hops dir)) fun j => wtItem (F := F) dir j c := by
  unfold creds wtItem
  rw [← bigSep_sep', ← bigSep_sep']

/-- What a device brings into the region besides its scratch buffers. -/
def X (c : Dev nD) : sProp 𝕄 := iprop(start m c ∗ semVal (dmaCell c (32 : Fin 33)) 0 ∗ outDone m c fun _ => False)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  have hu : (Pipeline.unscopedRestP (Ix := Unit) (Name := ℕ) (U := UU) (Lvl := ℕ) Pipeline.Prefetch.none cfg0.spec c (fun b => m ((c : Thread nD τ).loc b)) : sProp 𝕄)
      = (((c : Thread nD τ).loc main_v1) ↦{fullShare} m ((c : Thread nD τ).loc main_v1)) :=
    Pipeline.unscopedRestP_eq_of_list (win := cfg0.spec) (c := c) Pipeline.Prefetch.none _ [main_v1] (by decide) (by decide)
  rw [hu]
  unfold G' mine own payToks X start recs facts outDone
  dsimp only
  rw [bigSep_num fun s => atPos ER (dmaCell c s) 0 ∅ 0]
  iintro ⟨Hv, Hlev, Hcr, -, ⟨HK, HK'⟩, ⟨Hb, Hs, Hr, Hs', Hr'⟩, ⟨⟨Ht₁, Ht₂⟩, Htr, Htl⟩, Hz⟩
  ihave Hc := (creds_intro (F := F) c) $$ Hcr
  icases Hc with ⟨Hc, Hcr, Hcl⟩
  imodintro
  isplitl
  · isplitl [Hlev HK HK' Hb Hs Hr Hs' Hr' Ht₁ Ht₂ Htr Htl Hc Hcr Hcl]
    · isplitl [Hlev HK HK']
      · isplitl [HK]; · iexact HK
        isplitl [HK'] <;> iassumption
      isplitl [Hb Ht₁ Ht₂ Hc]
      · isplitl [Hb]; · iexact Hb
        isplitl [Ht₁]; · iexact Ht₁
        isplitl [Ht₂] <;> iassumption
      isplitl [Htr]; · iexact Htr
      isplitl [Htl]; · iexact Htl
      isplitl [Hs Hr Hcr]
      · iapply (wt_intro true c)
        isplitl [Hs]; · iexact Hs
        isplitl [Hr] <;> iassumption
      · iapply (wt_intro false c)
        isplitl [Hs']; · iexact Hs'
        isplitl [Hr'] <;> iassumption
    isplitl [Hz]; · iexact Hz
    iexists (m ((c : Thread nD τ).loc main_v1))
    isplitr; · ipureintro; exact fun _ h => h.elim
    iexact Hv
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ X gathPts tmpPts
  iintro ⟨⟨Hs, Hz, Ho⟩, -, Hg, Ht⟩
  isplitl [Hs]; · iexact Hs
  isplitl [Hg]; · iexact Hg
  isplitl [Ht]; · iexact Ht
  isplitl [Hz] <;> iassumption

/-- What the region leaves a device besides its scratch buffers and its own semaphores. -/
def Y (c : Dev nD) : sProp 𝕄 := iprop(unscopedSems0 c ∗ outDone m c fun _ => True)

omit [FloatOps F] in
/-- After the last hop a lane is blocks received and semaphores at zero. -/
theorem lane_end (dir : Bool) (c : Dev nD) :
    Lane (F := F) m dir (hops dir) c ⊢ iprop((bigSep (Finset.Ico 0 (hops dir)) fun j => blkPts c (chunk dir (j + 1) c) fullShare (agFull m))
      ∗ (bigSep (Finset.Ico 0 (hops dir)) fun j => semVal (sCell dir j c) 0) ∗ bigSep (Finset.Ico 0 (hops dir)) fun j => semVal (rCell dir j c) 0) := by
  unfold Lane Got zItem
  rw [bigSep_sep' (Finset.Ico 0 (hops dir)) (fun j => semVal (sCell dir j c) 0)]
  iintro ⟨H1, -, -, H2, H3⟩
  isplitl [H1]; · iexact H1
  isplitl [H2] <;> iassumption

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq, ownSems0_eq,
    bigSep_num fun s => semVal (dmaCell c s) 0]
  unfold Φ₁ Y
  rw [unscopedSems0_eq]
  iintro ⟨Hb, ⟨Hown, HR, HL⟩, Ht, Hz, Ho⟩
  ihave HR := (show Lane (F := F) m true 8 c ⊢ _ from lane_end m true c) $$ HR
  icases HR with ⟨HGr, Hsr, Hrr⟩
  ihave HL := (show Lane (F := F) m false 7 c ⊢ _ from lane_end m false c) $$ HL
  icases HL with ⟨HGl, Hsl, Hrl⟩
  isplitl [Hb Ho]
  · isplitl [Hb] <;> iassumption
  isplitl [Hz Hsr Hrr Hsl Hrl]
  · isplitl [Hz]; · iexact Hz
    isplitl [Hsr]; · iexact Hsr
    isplitl [Hrr]; · iexact Hrr
    isplitl [Hsl]; · iexact Hsl
    iexact Hrl
  isplitl [Hown HGr HGl]
  · ihave H := (Entails.of_eq (gath_blocks c (agFull m)).symm) $$ [Hown HGr HGl]
    · isplitl [Hown]; · iexact Hown
      isplitl [HGr]; · iexact HGr
      iexact HGl
    unfold gathPts
    iexists (agFull m); iexact H
  unfold tmpPts
  iexact Ht

/-- What is read off a device's final state. -/
def QY (c : Dev nD) (s : MemSt nD τ sig (Elt F)) : Prop :=
  (∀ sm : SemLoc sig, sm.isScoped .tc = false → s.sem ((c.tc : Thread nD τ), sm) = 0)
    ∧ s.mem ((c.tc : Thread nD τ).loc main_v1) = outFull m c

theorem read_end (c : Dev nD) (s' : Phys nD τ sig (Elt F)) :
    iprop(Y m c ∗ emp ∗ SI s') ⊢ |={Set.univ}=> (iprop(⌜QY m c s'.mem⌝ ∗ SI s') : sProp 𝕄) := by
  unfold Y outDone
  iintro ⟨⟨Hu, ⟨%f, %hf, Ho⟩⟩, -, HSI⟩
  ihave %h := SI_pointsTo_agree $$ [HSI Ho]
  · isplitl [HSI] <;> iassumption
  imod (Pipeline.unscopedSems0_read (X := unscopedSems0 c) (c := c) fupd_intro s') $$ [Hu HSI] with ⟨%hz, HSI⟩
  · isplitl [Hu] <;> iassumption
  imodintro
  isplitr
  · ipureintro
    exact ⟨hz, funext fun i => (h i (Finset.mem_univ i)).trans (hf i trivial)⟩
  iexact HSI

/-! ## The run -/

set_option maxRecDepth 8000 in
/-- From any memory with zero counters every weakly fair execution of the program terminates; every final state has
    the whole result on every device, both operands unchanged and every semaphore counter at zero. -/
theorem run_main : θ_run defs (onTc (τ := τ) (main (F := F))) (s₀ m ρ) (fun r =>
    (∀ c : Dev nD, r.2.mem ((c.tc : Thread nD τ).loc main_v1) = outFull m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (show (BI.own (embR (nD := nD) (sig := sig) (Ix := Unit) (Val := Elt F) (Name := ℕ) (Lvl := ℕ) (A := UR sig nD τ) (B := UB × Counters) (initOf ringCells ringToks, 1)) : sProp 𝕄)
        ⊢ BI.own (ER (initOf ringCells ringToks)) from Entails.of_eq rfl) $$ HX
      imod (fund_ring m) $$ HX with HG
      imodintro
      isplitl [HP] <;> iassumption)
    (hglob := glob m)
    (hA := fun _ _ => rfl) (hpf := fun _ k => k.elim0)
    (X := X m) (Y := Y m) (Z := fun _ => iprop(emp))
    (hX := start_intro m ρ) (hin := phi0_intro m ρ) (hout := phi1_exit m ρ)
    (QY := QY m) (hY := read_end m)
    (hQ := fun _ h hs => ⟨fun c => ⟨(h c).2.2.2, ((h c).1 0).trans ((dats m ρ 0 c).arrAt_in 0 rfl _),
      ((h c).1 1).trans ((dats m ρ 0 c).arrAt_in 1 rfl _)⟩, sem_eq_zero hs fun c => (h c).2.2.1⟩)

end Cert.KernelIdeal.Hand

end
-- ==== Proof.Values.lean ====
/- The blocks the devices compute, laid one under another, are the reference's product, over the extended reals. -/
module

public import proofs.«01_k».proof.Proof.KernelIdealSched
public import proofs.«01_k».proof.Proof.Gen.ReferenceIdeal
public import Idealize.ShloMosaic.Lib.MatmulPlain
public import Idealize.ShloMosaic.Lib.StackMember
public import Idealize.ShloMosaic.Lib.Pipeline.Value

@[expose] public section

noncomputable section

namespace Cert.Values

open Idealize.ShloMosaic Idealize.ShloMosaic.ValueIdx
open Cert.KernelIdeal.Gen Cert.ReferenceIdeal.Gen Cert.Rows
open scoped BigOperators

/-- The whole product, rounded to half precision, as the reference computes it. -/
abbrev whole (A : FVec Ideal (All 512) .bf16) (B : FVec Ideal ⟨2, ![512, 1024]⟩ .bf16) : FVec Ideal (All 1024) .bf16 :=
  truncf .bf16 (Host.dotGeneral Cert.ReferenceIdeal.dot_S16384x512_S512x1024_S16384x1024_1_0_0_1_n_n none A B)
    Cert.ReferenceIdeal.Gen.bitsLt_bf16_f32

/-- Over the extended reals an entry of the whole product is the sum of the products of a row's and a column's entries. -/
theorem whole_apply (A : FVec Ideal (All 512) .bf16) (B : FVec Ideal ⟨2, ![512, 1024]⟩ .bf16) (r : Fin 16384) (c : Fin 1024) :
    whole A B (ix2 r c) = ∑ k : Fin 512, A (ix2 r k) * B (ix2 k c) :=
  StackMember.dotGeneral_plain_apply (m := 16384) (n := 1024) none A B r c

/-- Over the extended reals an entry of a block product is the sum of the products of a row's and a column's entries. -/
theorem blockProd_apply (a : FVec Ideal (Blk 512) .bf16) (b : FVec Ideal ⟨2, ![512, 1024]⟩ .bf16) (r c : Fin 1024) :
    Cert.KernelIdeal.Hand.blockProd (F := Ideal) a b (ix2 r c) = ∑ k : Fin 512, a (ix2 r k) * b (ix2 k c) := by
  unfold Cert.KernelIdeal.Hand.blockProd
  rw [Idealize.ShloMosaic.shapeCast_self, Idealize.ShloMosaic.shapeCast_self]
  refine (Ideal.matmul_plain_apply (M := 1024) (K := 512) (N := 1024) none a b
    (constant Cert.KernelIdeal.S1024x1024 .f32 0x00000000#32) r c).trans ?_
  show Ideal.ofBits .f32 0x00000000#32 + _ = _
  rw [Ideal.ofBits_zero_f32, zero_add]

/-- Row `r` of block `k` of an array cut into sixteen blocks of rows is row `1024 k + r` of the array. -/
theorem block_row {n : ℕ} {α : Type} (v : (All n).Idx → α) (h : Layout.Tiles (Blk n) (All n) 0 16) (k : Fin 16)
    (r : Fin 1024) (j : Fin n) (hr : k.val * 1024 + r.val < 16384) :
    Layout.block (Blk n) (All n) 0 16 k v h (ix2 r j) = v (ix2 ⟨k.val * 1024 + r.val, hr⟩ j) := by
  show v (h.idx k (ix2 r j)) = _
  congr 1
  refine funext fun a => ?_
  match a with
  | ⟨0, _⟩ => rfl
  | ⟨1, _⟩ => rfl

/-- The products of the sixteen blocks of the left operand with the right operand, laid one under another, are the
    whole product. -/
theorem rowsOf_blockProd (A : FVec Ideal (All 512) .bf16) (B : FVec Ideal ⟨2, ![512, 1024]⟩ .bf16)
    (h : Layout.Tiles (Blk 512) (All 512) 0 16) :
    rowsOf (n := 1024) (fun k => Cert.KernelIdeal.Hand.blockProd (F := Ideal) (Layout.block (Blk 512) (All 512) 0 16 k A h) B)
      = whole A B := by
  funext i
  obtain ⟨r, c, rfl⟩ : ∃ (r : Fin 16384) (c : Fin 1024), i = ix2 r c := ⟨i 0, i 1, eq_ix2 i⟩
  have hm : r.val % 1024 < 1024 := Nat.mod_lt _ (by decide)
  have hw : within (n := 1024) (ix2 r c) = ix2 ⟨r.val % 1024, hm⟩ c := by
    refine funext fun a => ?_
    match a with
    | ⟨0, _⟩ => rfl
    | ⟨1, _⟩ => rfl
  have hr : (blockOf (n := 1024) (ix2 r c)).val * 1024 + r.val % 1024 = r.val := by
    show r.val / 1024 * 1024 + r.val % 1024 = r.val
    omega
  rw [whole_apply]
  unfold rowsOf; dsimp only
  rw [hw, blockProd_apply]
  refine Finset.sum_congr rfl fun k _ => ?_
  rw [block_row A h _ ⟨r.val % 1024, hm⟩ k (by rw [hr]; exact r.isLt)]
  congr 3
  exact Fin.ext hr

end Cert.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem Cert.Rows

/-- The kernel on machine floats runs to the end, leaves its arguments unchanged and every counter at zero. -/
theorem frame_kernel : Cert.quiescent_Kernel := fun m ρ _ =>
  (θ_run Cert.Kernel.defs _ _).mono (fun _ h => ⟨fun c => (h.1 c).2, h.2⟩) (Cert.Kernel.Hand.run_main (F := Bits) m ρ)

/-- The kernel on extended reals runs to the end, leaves its arguments unchanged and every counter at zero. -/
theorem frame_ideal : Cert.quiescent_KernelIdeal := fun m ρ _ =>
  (θ_run Cert.KernelIdeal.defs _ _).mono (fun _ h => ⟨fun c => (h.1 c).2, h.2⟩) (Cert.KernelIdeal.Hand.run_main (F := Ideal) m ρ)

/-- The reference runs to the end and leaves its arguments unchanged; it declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On every device the kernel's result is the reference's, over the extended reals. -/
theorem value : Cert.algebraic_KernelIdeal_ReferenceIdeal := by
  intro m g m' g' _ hag
  refine ⟨_, (θ_run Cert.KernelIdeal.defs _ _).mono (fun r h c => ⟨(h.1 c).1.trans ?_, (h.1 c).2⟩)
      (Cert.KernelIdeal.Hand.run_main (F := Ideal) m g),
    (θ_run Cert.ReferenceIdeal.defs _ _).mono (fun r h => h 0) (Cert.ReferenceIdeal.Value.run (F := Ideal) m' g')⟩
  refine Eq.trans ?_ (Cert.Values.rowsOf_blockProd _ _ (by decide))
  exact congrArg (rowsOf (n := 1024)) (funext fun k =>
    congrArg₂ (Cert.KernelIdeal.Hand.blockProd (F := Ideal)) (hag k).1 (hag c).2)

/-- Everything claimed of the kernel and its reference. -/
theorem claim : Cert.Claim := ⟨Cert.Kernel.Gen.facts, Cert.KernelIdeal.Gen.facts, Cert.ReferenceIdeal.Gen.facts,
  frame_kernel, frame_ideal, frame_reference, trivial, value⟩

end Cert.Proof

end
